-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v68_0)) (v1 : (c : Dev Cert.KernelIdeal.nD) → Buf (Elt Ideal) ((c.tc : Thread Cert.KernelIdeal.nD Cert.KernelIdeal.τ).loc Cert.KernelIdeal.main_v68_1)) (v2 : (c : Dev Cert.KernelIdeal.nD) → Buf (Elt Ideal) ((c.tc : Thread Cert.KernelIdeal.nD Cert.KernelIdeal.τ).loc Cert.KernelIdeal.main_v68_2)) (v3 : (c : Dev Cert.KernelIdeal.nD) → Buf (Elt Ideal) ((c.tc : Thread Cert.KernelIdeal.nD Cert.KernelIdeal.τ).loc Cert.KernelIdeal.main_v68_3)) (v4 : (c : Dev Cert.KernelIdeal.nD) → Buf (Elt Ideal) ((c.tc : Thread Cert.KernelIdeal.nD Cert.KernelIdeal.τ).loc Cert.KernelIdeal.main_v68_5)) (v5 : (c : Dev Cert.KernelIdeal.nD) → Buf (Elt Ideal) ((c.tc : Thread Cert.KernelIdeal.nD Cert.KernelIdeal.τ).loc Cert.KernelIdeal.main_v68_6)) (v6 : (c : Dev Cert.KernelIdeal.nD) → Buf (Elt Ideal) ((c.tc : Thread Cert.KernelIdeal.nD Cert.KernelIdeal.τ).loc Cert.KernelIdeal.main_v68_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68_0) = v0 c
          ∧ r.2.mem ((c.tc : Thread Cert.KernelIdeal.nD Cert.KernelIdeal.τ).loc Cert.KernelIdeal.main_v68_1) = v1 c
          ∧ r.2.mem ((c.tc : Thread Cert.KernelIdeal.nD Cert.KernelIdeal.τ).loc Cert.KernelIdeal.main_v68_2) = v2 c
          ∧ r.2.mem ((c.tc : Thread Cert.KernelIdeal.nD Cert.KernelIdeal.τ).loc Cert.KernelIdeal.main_v68_3) = v3 c
          ∧ r.2.mem ((c.tc : Thread Cert.KernelIdeal.nD Cert.KernelIdeal.τ).loc Cert.KernelIdeal.main_v68_5) = v4 c
          ∧ r.2.mem ((c.tc : Thread Cert.KernelIdeal.nD Cert.KernelIdeal.τ).loc Cert.KernelIdeal.main_v68_6) = v5 c
          ∧ r.2.mem ((c.tc : Thread Cert.KernelIdeal.nD Cert.KernelIdeal.τ).loc Cert.KernelIdeal.main_v68_7) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v248) = v1 c
          ∧ r.2.mem ((c.tc : Thread Cert.ReferenceIdeal.nD Cert.ReferenceIdeal.τ).loc Cert.ReferenceIdeal.main_v249) = v2 c
          ∧ r.2.mem ((c.tc : Thread Cert.ReferenceIdeal.nD Cert.ReferenceIdeal.τ).loc Cert.ReferenceIdeal.main_v22) = v3 c
          ∧ r.2.mem ((c.tc : Thread Cert.ReferenceIdeal.nD Cert.ReferenceIdeal.τ).loc Cert.ReferenceIdeal.main_v253) = v4 c
          ∧ r.2.mem ((c.tc : Thread Cert.ReferenceIdeal.nD Cert.ReferenceIdeal.τ).loc Cert.ReferenceIdeal.main_v260) = v5 c
          ∧ r.2.mem ((c.tc : Thread Cert.ReferenceIdeal.nD Cert.ReferenceIdeal.τ).loc Cert.ReferenceIdeal.main_v266) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v56) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v16)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v56) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v68_0)) (v1 : (c : Dev Cert.Kernel4Ideal.nD) → Buf (Elt Ideal) ((c.tc : Thread Cert.Kernel4Ideal.nD Cert.Kernel4Ideal.τ).loc Cert.Kernel4Ideal.main_v68_1)) (v2 : (c : Dev Cert.Kernel4Ideal.nD) → Buf (Elt Ideal) ((c.tc : Thread Cert.Kernel4Ideal.nD Cert.Kernel4Ideal.τ).loc Cert.Kernel4Ideal.main_v68_2)) (v3 : (c : Dev Cert.Kernel4Ideal.nD) → Buf (Elt Ideal) ((c.tc : Thread Cert.Kernel4Ideal.nD Cert.Kernel4Ideal.τ).loc Cert.Kernel4Ideal.main_v68_3)) (v4 : (c : Dev Cert.Kernel4Ideal.nD) → Buf (Elt Ideal) ((c.tc : Thread Cert.Kernel4Ideal.nD Cert.Kernel4Ideal.τ).loc Cert.Kernel4Ideal.main_v68_5)) (v5 : (c : Dev Cert.Kernel4Ideal.nD) → Buf (Elt Ideal) ((c.tc : Thread Cert.Kernel4Ideal.nD Cert.Kernel4Ideal.τ).loc Cert.Kernel4Ideal.main_v68_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v68_0) = v0 c
          ∧ r.2.mem ((c.tc : Thread Cert.Kernel4Ideal.nD Cert.Kernel4Ideal.τ).loc Cert.Kernel4Ideal.main_v68_1) = v1 c
          ∧ r.2.mem ((c.tc : Thread Cert.Kernel4Ideal.nD Cert.Kernel4Ideal.τ).loc Cert.Kernel4Ideal.main_v68_2) = v2 c
          ∧ r.2.mem ((c.tc : Thread Cert.Kernel4Ideal.nD Cert.Kernel4Ideal.τ).loc Cert.Kernel4Ideal.main_v68_3) = v3 c
          ∧ r.2.mem ((c.tc : Thread Cert.Kernel4Ideal.nD Cert.Kernel4Ideal.τ).loc Cert.Kernel4Ideal.main_v68_5) = v4 c
          ∧ r.2.mem ((c.tc : Thread Cert.Kernel4Ideal.nD Cert.Kernel4Ideal.τ).loc Cert.Kernel4Ideal.main_v68_7) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_v135) = v1 c
          ∧ r.2.mem ((c.tc : Thread Cert.Reference4Ideal.nD Cert.Reference4Ideal.τ).loc Cert.Reference4Ideal.main_v136) = v2 c
          ∧ r.2.mem ((c.tc : Thread Cert.Reference4Ideal.nD Cert.Reference4Ideal.τ).loc Cert.Reference4Ideal.main_v20) = v3 c
          ∧ r.2.mem ((c.tc : Thread Cert.Reference4Ideal.nD Cert.Reference4Ideal.τ).loc Cert.Reference4Ideal.main_v140) = v4 c
          ∧ r.2.mem ((c.tc : Thread Cert.Reference4Ideal.nD Cert.Reference4Ideal.τ).loc Cert.Reference4Ideal.main_v146) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S32x16x1024 : Shape := ⟨3, ![32, 16, 1024]⟩
abbrev S1x32x15x512 : Shape := ⟨4, ![1, 32, 15, 512]⟩
abbrev S1x1024x4680 : Shape := ⟨3, ![1, 1024, 4680]⟩
abbrev S1x4x128x256 : Shape := ⟨4, ![1, 4, 128, 256]⟩
abbrev S1x1024 : Shape := ⟨2, ![1, 1024]⟩
abbrev S_ : Shape := ⟨0, ![]⟩
abbrev S32x1x512 : Shape := ⟨3, ![32, 1, 512]⟩
abbrev S32x15x512 : Shape := ⟨3, ![32, 15, 512]⟩
abbrev S32x16x512 : Shape := ⟨3, ![32, 16, 512]⟩
abbrev S1024x4680 : Shape := ⟨2, ![1024, 4680]⟩
abbrev S1024x2632 : Shape := ⟨2, ![1024, 2632]⟩
abbrev S1024x56 : Shape := ⟨2, ![1024, 56]⟩
abbrev S1024x2048 : Shape := ⟨2, ![1024, 2048]⟩
abbrev S1024x4736 : Shape := ⟨2, ![1024, 4736]⟩
abbrev S1024 : Shape := ⟨1, ![1024]⟩
abbrev S4x128x256 : Shape := ⟨3, ![4, 128, 256]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S16x96 : Shape := ⟨2, ![16, 96]⟩
abbrev S16x128 : Shape := ⟨2, ![16, 128]⟩
abbrev S1x16x1x128 : Shape := ⟨4, ![1, 16, 1, 128]⟩
abbrev S8 : Shape := ⟨1, ![8]⟩
abbrev S1x8 : Shape := ⟨2, ![1, 8]⟩
abbrev S16x8 : Shape := ⟨2, ![16, 8]⟩
abbrev S16x48 : Shape := ⟨2, ![16, 48]⟩
abbrev S16x64 : Shape := ⟨2, ![16, 64]⟩
abbrev S1x16x1x64 : Shape := ⟨4, ![1, 16, 1, 64]⟩
abbrev S1x16x2x64 : Shape := ⟨4, ![1, 16, 2, 64]⟩
abbrev S32x8x16x128 : Shape := ⟨4, ![32, 8, 16, 128]⟩
abbrev S32x16x256 : Shape := ⟨3, ![32, 16, 256]⟩
abbrev S32x8x16x256 : Shape := ⟨4, ![32, 8, 16, 256]⟩
abbrev S32x16x128 : Shape := ⟨3, ![32, 16, 128]⟩
abbrev S1x16x1024 : Shape := ⟨3, ![1, 16, 1024]⟩
abbrev S1x16x512 : Shape := ⟨3, ![1, 16, 512]⟩
abbrev S1x8x16x128 : Shape := ⟨4, ![1, 8, 16, 128]⟩
abbrev S1x16x256 : Shape := ⟨3, ![1, 16, 256]⟩
abbrev S1x8x16x256 : Shape := ⟨4, ![1, 8, 16, 256]⟩
abbrev S1x16x128 : Shape := ⟨3, ![1, 16, 128]⟩
abbrev S48x512 : Shape := ⟨2, ![48, 512]⟩
abbrev S16x1024 : Shape := ⟨2, ![16, 1024]⟩
abbrev S16x4736 : Shape := ⟨2, ![16, 4736]⟩
abbrev S1x1x16x128 : Shape := ⟨4, ![1, 1, 16, 128]⟩
abbrev S16x256 : Shape := ⟨2, ![16, 256]⟩
abbrev S16x512 : Shape := ⟨2, ![16, 512]⟩
abbrev S40x512 : Shape := ⟨2, ![40, 512]⟩
abbrev S32x512 : Shape := ⟨2, ![32, 512]⟩
abbrev S24x512 : Shape := ⟨2, ![24, 512]⟩
abbrev S1x128x256 : Shape := ⟨3, ![1, 128, 256]⟩
abbrev S128x256 : Shape := ⟨2, ![128, 256]⟩

abbrev nBuf : Space → Nat
  | .hbm => 93
  | .vmem => 32
  | .smem => 0
  | _ => 0

abbrev bufTy : (tb : Table) → Fin (tcTables nBuf tb) → BufTy
  | .hbm, ⟨0, _⟩ => ⟨S32x16x1024, .f32⟩
  | .hbm, ⟨1, _⟩ => ⟨S1x32x15x512, .f32⟩
  | .hbm, ⟨2, _⟩ => ⟨S1x1024x4680, .f32⟩
  | .hbm, ⟨3, _⟩ => ⟨S1x4x128x256, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S32x1x512, .f32⟩
  | .hbm, ⟨8, _⟩ => ⟨S32x15x512, .f32⟩
  | .hbm, ⟨9, _⟩ => ⟨S32x16x512, .f32⟩
  | .hbm, ⟨10, _⟩ => ⟨S1024x4680, .f32⟩
  | .hbm, ⟨11, _⟩ => ⟨S1024x2632, .f32⟩
  | .hbm, ⟨12, _⟩ => ⟨S_, .f32⟩
  | .hbm, ⟨13, _⟩ => ⟨S1024x56, .f32⟩
  | .hbm, ⟨14, _⟩ => ⟨S1024x2048, .f32⟩
  | .hbm, ⟨15, _⟩ => ⟨S1024x4736, .f32⟩
  | .hbm, ⟨16, _⟩ => ⟨S1024x4736, .bf16⟩
  | .hbm, ⟨17, _⟩ => ⟨S1024, .f32⟩
  | .hbm, ⟨18, _⟩ => ⟨S1x1024, .f32⟩
  | .hbm, ⟨19, _⟩ => ⟨S4x128x256, .f32⟩
  | .hbm, ⟨20, _⟩ => ⟨S4x128x256, .bf16⟩
  | .hbm, ⟨21, _⟩ => ⟨S1024, .f32⟩
  | .hbm, ⟨22, _⟩ => ⟨S1x1024, .f32⟩
  | .hbm, ⟨23, _⟩ => ⟨S16, .i32⟩
  | .hbm, ⟨24, _⟩ => ⟨S_, .i32⟩
  | .hbm, ⟨25, _⟩ => ⟨S16, .i32⟩
  | .hbm, ⟨26, _⟩ => ⟨S16, .i32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S16, .f32⟩
  | .hbm, ⟨36, _⟩ => ⟨S16x1, .f32⟩
  | .hbm, ⟨37, _⟩ => ⟨S1x16, .f32⟩
  | .hbm, ⟨38, _⟩ => ⟨S16x16, .f32⟩
  | .hbm, ⟨39, _⟩ => ⟨S16x16, .f32⟩
  | .hbm, ⟨40, _⟩ => ⟨S16x16, .f32⟩
  | .hbm, ⟨41, _⟩ => ⟨S16x16, .f32⟩
  | .hbm, ⟨42, _⟩ => ⟨S16x16, .f32⟩
  | .hbm, ⟨43, _⟩ => ⟨S_, .f32⟩
  | .hbm, ⟨44, _⟩ => ⟨S16x96, .f32⟩
  | .hbm, ⟨45, _⟩ => ⟨S16x128, .f32⟩
  | .hbm, ⟨46, _⟩ => ⟨S16x16, .f32⟩
  | .hbm, ⟨47, _⟩ => ⟨S_, .f32⟩
  | .hbm, ⟨48, _⟩ => ⟨S16x96, .f32⟩
  | .hbm, ⟨49, _⟩ => ⟨S16x128, .f32⟩
  | .hbm, ⟨50, _⟩ => ⟨S1x16x1x128, .f32⟩
  | .hbm, ⟨51, _⟩ => ⟨S1x16x1x128, .f32⟩
  | .hbm, ⟨52, _⟩ => ⟨S16x128, .f32⟩
  | .hbm, ⟨53, _⟩ => ⟨S1x16x1x128, .f32⟩
  | .hbm, ⟨54, _⟩ => ⟨S1x16x1x128, .f32⟩
  | .hbm, ⟨55, _⟩ => ⟨S16x128, .f32⟩
  | .hbm, ⟨56, _⟩ => ⟨S8, .f32⟩
  | .hbm, ⟨57, _⟩ => ⟨S8, .f32⟩
  | .hbm, ⟨58, _⟩ => ⟨S_, .f32⟩
  | .hbm, ⟨59, _⟩ => ⟨S8, .f32⟩
  | .hbm, ⟨60, _⟩ => ⟨S8, .f32⟩
  | .hbm, ⟨61, _⟩ => ⟨S_, .f32⟩
  | .hbm, ⟨62, _⟩ => ⟨S8, .f32⟩
  | .hbm, ⟨63, _⟩ => ⟨S8, .f32⟩
  | .hbm, ⟨64, _⟩ => ⟨S16, .f32⟩
  | .hbm, ⟨65, _⟩ => ⟨S16x1, .f32⟩
  | .hbm, ⟨66, _⟩ => ⟨S1x8, .f32⟩
  | .hbm, ⟨67, _⟩ => ⟨S16x8, .f32⟩
  | .hbm, ⟨68, _⟩ => ⟨S16x8, .f32⟩
  | .hbm, ⟨69, _⟩ => ⟨S16x8, .f32⟩
  | .hbm, ⟨70, _⟩ => ⟨S16x8, .f32⟩
  | .hbm, ⟨71, _⟩ => ⟨S16x8, .f32⟩
  | .hbm, ⟨72, _⟩ => ⟨S_, .f32⟩
  | .hbm, ⟨73, _⟩ => ⟨S16x48, .f32⟩
  | .hbm, ⟨74, _⟩ => ⟨S16x64, .f32⟩
  | .hbm, ⟨75, _⟩ => ⟨S16x8, .f32⟩
  | .hbm, ⟨76, _⟩ => ⟨S_, .f32⟩
  | .hbm, ⟨77, _⟩ => ⟨S16x48, .f32⟩
  | .hbm, ⟨78, _⟩ => ⟨S16x64, .f32⟩
  | .hbm, ⟨79, _⟩ => ⟨S1x16x1x64, .f32⟩
  | .hbm, ⟨80, _⟩ => ⟨S1x16x2x64, .f32⟩
  | .hbm, ⟨81, _⟩ => ⟨S16x128, .f32⟩
  | .hbm, ⟨82, _⟩ => ⟨S1x16x1x64, .f32⟩
  | .hbm, ⟨83, _⟩ => ⟨S1x16x2x64, .f32⟩
  | .hbm, ⟨84, _⟩ => ⟨S16x128, .f32⟩
  | .hbm, ⟨85, _⟩ => ⟨S32x16x512, .f32⟩
  | .hbm, ⟨86, _⟩ => ⟨S32x8x16x128, .bf16⟩
  | .hbm, ⟨87, _⟩ => ⟨S32x16x256, .f32⟩
  | .hbm, ⟨88, _⟩ => ⟨S32x16x256, .f32⟩
  | .hbm, ⟨89, _⟩ => ⟨S32x8x16x256, .bf16⟩
  | .hbm, ⟨90, _⟩ => ⟨S32x16x128, .f32⟩
  | .hbm, ⟨91, _⟩ => ⟨S32x16x1024, .f32⟩
  | .hbm, ⟨92, _⟩ => ⟨S32x16x1024, .f32⟩
  | .local _ .vmem, ⟨0, _⟩ => ⟨S1x16x1024, .f32⟩
  | .local _ .vmem, ⟨1, _⟩ => ⟨S1x16x1024, .f32⟩
  | .local _ .vmem, ⟨2, _⟩ => ⟨S1x1024, .f32⟩
  | .local _ .vmem, ⟨3, _⟩ => ⟨S1024x4736, .bf16⟩
  | .local _ .vmem, ⟨4, _⟩ => ⟨S1x16x512, .f32⟩
  | .local _ .vmem, ⟨5, _⟩ => ⟨S1x16x512, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S4x128x256, .bf16⟩
  | .local _ .vmem, ⟨11, _⟩ => ⟨S1x1024, .f32⟩
  | .local _ .vmem, ⟨12, _⟩ => ⟨S1x16x512, .f32⟩
  | .local _ .vmem, ⟨13, _⟩ => ⟨S1x16x512, .f32⟩
  | .local _ .vmem, ⟨14, _⟩ => ⟨S1x8x16x128, .bf16⟩
  | .local _ .vmem, ⟨15, _⟩ => ⟨S1x8x16x128, .bf16⟩
  | .local _ .vmem, ⟨16, _⟩ => ⟨S1x16x256, .f32⟩
  | .local _ .vmem, ⟨17, _⟩ => ⟨S1x16x256, .f32⟩
  | .local _ .vmem, ⟨18, _⟩ => ⟨S1x16x256, .f32⟩
  | .local _ .vmem, ⟨19, _⟩ => ⟨S1x16x256, .f32⟩
  | .local _ .vmem, ⟨20, _⟩ => ⟨S1x8x16x256, .bf16⟩
  | .local _ .vmem, ⟨21, _⟩ => ⟨S1x8x16x256, .bf16⟩
  | .local _ .vmem, ⟨22, _⟩ => ⟨S1x16x128, .f32⟩
  | .local _ .vmem, ⟨23, _⟩ => ⟨S1x16x128, .f32⟩
  | .local _ .vmem, ⟨24, _⟩ => ⟨S1x16x1024, .f32⟩
  | .local _ .vmem, ⟨25, _⟩ => ⟨S1x16x1024, .f32⟩
  | .local _ .vmem, ⟨26, _⟩ => ⟨S1x16x1024, .f32⟩
  | .local _ .vmem, ⟨27, _⟩ => ⟨S1x16x1024, .f32⟩
  | .local _ .vmem, ⟨28, _⟩ => ⟨S48x512, .f32⟩
  | .local _ .vmem, ⟨29, _⟩ => ⟨S48x512, .f32⟩
  | .local _ .vmem, ⟨30, _⟩ => ⟨S48x512, .f32⟩
  | .local _ .vmem, ⟨31, _⟩ => ⟨S48x512, .f32⟩
  | _, _ => ⟨S32x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_5 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_7 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_8 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68_0 : Ref sig .tc := ⟨.hbm, 85, rfl⟩
abbrev main_v68_1 : Ref sig .tc := ⟨.hbm, 86, rfl⟩
abbrev main_v68_2 : Ref sig .tc := ⟨.hbm, 87, rfl⟩
abbrev main_v68_3 : Ref sig .tc := ⟨.hbm, 88, rfl⟩
abbrev main_v68_4 : Ref sig .tc := ⟨.hbm, 89, rfl⟩
abbrev main_v68_5 : Ref sig .tc := ⟨.hbm, 90, rfl⟩
abbrev main_v68_6 : Ref sig .tc := ⟨.hbm, 91, rfl⟩
abbrev main_v68_7 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4736 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S4x128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x16x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x16x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x16x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x16x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x16x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x16x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== ReferenceIdeal.lean ====
abbrev S32x16x1024 : Shape := ⟨3, ![32, 16, 1024]⟩
abbrev S1x32x15x512 : Shape := ⟨4, ![1, 32, 15, 512]⟩
abbrev S1x1024x4680 : Shape := ⟨3, ![1, 1024, 4680]⟩
abbrev S1x4x128x256 : Shape := ⟨4, ![1, 4, 128, 256]⟩
abbrev S1x1024 : Shape := ⟨2, ![1, 1024]⟩
abbrev S16 : Shape := ⟨1, ![16]⟩
abbrev S_ : Shape := ⟨0, ![]⟩
abbrev S1024 : Shape := ⟨1, ![1024]⟩
abbrev S32x16 : Shape := ⟨2, ![32, 16]⟩
abbrev S32x16x1 : Shape := ⟨3, ![32, 16, 1]⟩
abbrev S1x1x1024 : Shape := ⟨3, ![1, 1, 1024]⟩
abbrev S1024x4680 : Shape := ⟨2, ![1024, 4680]⟩
abbrev S32x16x4680 : Shape := ⟨3, ![32, 16, 4680]⟩
abbrev S32x16x512 : Shape := ⟨3, ![32, 16, 512]⟩
abbrev S32x16x256 : Shape := ⟨3, ![32, 16, 256]⟩
abbrev S32x16x64 : Shape := ⟨3, ![32, 16, 64]⟩
abbrev S32x16x8 : Shape := ⟨3, ![32, 16, 8]⟩
abbrev S32x16x8x128 : Shape := ⟨4, ![32, 16, 8, 128]⟩
abbrev S16x1 : Shape := ⟨2, ![16, 1]⟩
abbrev S1x16 : Shape := ⟨2, ![1, 16]⟩
abbrev S16x16 : Shape := ⟨2, ![16, 16]⟩
abbrev S16x1x16 : Shape := ⟨3, ![16, 1, 16]⟩
abbrev S32x16x8x16 : Shape := ⟨4, ![32, 16, 8, 16]⟩
abbrev S1x16x1x16 : Shape := ⟨4, ![1, 16, 1, 16]⟩
abbrev S32x16x8x96 : Shape := ⟨4, ![32, 16, 8, 96]⟩
abbrev S32x16x2x128 : Shape := ⟨4, ![32, 16, 2, 128]⟩
abbrev S32x16x2x16 : Shape := ⟨4, ![32, 16, 2, 16]⟩
abbrev S32x16x2x96 : Shape := ⟨4, ![32, 16, 2, 96]⟩
abbrev S32x16x1x64 : Shape := ⟨4, ![32, 16, 1, 64]⟩
abbrev S8 : Shape := ⟨1, ![8]⟩
abbrev S1x8 : Shape := ⟨2, ![1, 8]⟩
abbrev S16x8 : Shape := ⟨2, ![16, 8]⟩
abbrev S16x1x8 : Shape := ⟨3, ![16, 1, 8]⟩
abbrev S32x16x1x8 : Shape := ⟨4, ![32, 16, 1, 8]⟩
abbrev S1x16x1x8 : Shape := ⟨4, ![1, 16, 1, 8]⟩
abbrev S32x16x1x48 : Shape := ⟨4, ![32, 16, 1, 48]⟩
abbrev S32x15x512 : Shape := ⟨3, ![32, 15, 512]⟩
abbrev S4x128x256 : Shape := ⟨3, ![4, 128, 256]⟩
abbrev S32x31x512 : Shape := ⟨3, ![32, 31, 512]⟩
abbrev S32x16x128 : Shape := ⟨3, ![32, 16, 128]⟩
abbrev S1x16x1 : Shape := ⟨3, ![1, 16, 1]⟩
abbrev S32x16x1x128 : Shape := ⟨4, ![32, 16, 1, 128]⟩
abbrev S32x16x4x128 : Shape := ⟨4, ![32, 16, 4, 128]⟩
abbrev S4x256x32x16 : Shape := ⟨4, ![4, 256, 32, 16]⟩
abbrev S32x16x4x256 : Shape := ⟨4, ![32, 16, 4, 256]⟩
abbrev S32x8x16x128 : Shape := ⟨4, ![32, 8, 16, 128]⟩
abbrev S32x16x56 : Shape := ⟨3, ![32, 16, 56]⟩

abbrev nBuf : Space → Nat
  | .hbm => 298
  | .vmem => 0
  | .smem => 0
  | _ => 0

abbrev hbmTy0_0 (i : Nat) : BufTy := match i % 128 with
  | 0 => ⟨S32x16x1024, .f32⟩
  | 1 => ⟨S1x32x15x512, .f32⟩
  | 2 => ⟨S1x1024x4680, .f32⟩
  | 3 => ⟨S1x4x128x256, .f32⟩
  | 4 => ⟨S1x1024, .f32⟩
  | 5 => ⟨S1x1024, .f32⟩
  | 6 => ⟨S16, .i32⟩
  | 7 => ⟨S_, .i32⟩
  | 8 => ⟨S16, .i32⟩
  | 9 => ⟨S16, .i32⟩
  | 10 => ⟨S1024, .f32⟩
  | 11 => ⟨S32x16x1024, .f32⟩
  | 12 => ⟨S_, .f32⟩
  | 13 => ⟨S32x16, .f32⟩
  | 14 => ⟨S32x16x1, .f32⟩
  | 15 => ⟨S_, .f32⟩
  | 16 => ⟨S32x16x1, .f32⟩
  | 17 => ⟨S32x16x1, .f32⟩
  | 18 => ⟨S_, .f32⟩
  | 19 => ⟨S32x16x1, .f32⟩
  | 20 => ⟨S32x16x1, .f32⟩
  | 21 => ⟨S32x16x1, .f32⟩
  | 22 => ⟨S32x16x1024, .f32⟩
  | 23 => ⟨S32x16x1024, .f32⟩
  | 24 => ⟨S1x1x1024, .f32⟩
  | 25 => ⟨S32x16x1024, .f32⟩
  | 26 => ⟨S32x16x1024, .f32⟩
  | 27 => ⟨S1024x4680, .f32⟩
  | 28 => ⟨S32x16x4680, .f32⟩
  | 29 => ⟨S32x16x512, .f32⟩
  | 30 => ⟨S32x16x1024, .f32⟩
  | 31 => ⟨S32x16x256, .f32⟩
  | 32 => ⟨S32x16x256, .f32⟩
  | 33 => ⟨S32x16x512, .f32⟩
  | 34 => ⟨S32x16x64, .f32⟩
  | 35 => ⟨S32x16x8, .f32⟩
  | 36 => ⟨S32x16x1024, .f32⟩
  | 37 => ⟨S32x16x1024, .f32⟩
  | 38 => ⟨S32x16x8x128, .f32⟩
  | 39 => ⟨S16, .f32⟩
  | 40 => ⟨S16, .f32⟩
  | 41 => ⟨S_, .f32⟩
  | 42 => ⟨S16, .f32⟩
  | 43 => ⟨S16, .f32⟩
  | 44 => ⟨S_, .f32⟩
  | 45 => ⟨S16, .f32⟩
  | 46 => ⟨S16, .f32⟩
  | 47 => ⟨S16, .f32⟩
  | 48 => ⟨S16x1, .f32⟩
  | 49 => ⟨S1x16, .f32⟩
  | 50 => ⟨S16x16, .f32⟩
  | 51 => ⟨S16x16, .f32⟩
  | 52 => ⟨S16x16, .f32⟩
  | 53 => ⟨S16x16, .f32⟩
  | 54 => ⟨S16x1x16, .f32⟩
  | 55 => ⟨S16x16, .f32⟩
  | 56 => ⟨S16x1x16, .f32⟩
  | 57 => ⟨S32x16x8x16, .f32⟩
  | 58 => ⟨S32x16x8x16, .f32⟩
  | 59 => ⟨S1x16x1x16, .f32⟩
  | 60 => ⟨S32x16x8x16, .f32⟩
  | 61 => ⟨S32x16x8x16, .f32⟩
  | 62 => ⟨S1x16x1x16, .f32⟩
  | 63 => ⟨S32x16x8x16, .f32⟩
  | 64 => ⟨S32x16x8x16, .f32⟩
  | 65 => ⟨S32x16x8x16, .f32⟩
  | 66 => ⟨S1x16x1x16, .f32⟩
  | 67 => ⟨S32x16x8x16, .f32⟩
  | 68 => ⟨S32x16x8x16, .f32⟩
  | 69 => ⟨S1x16x1x16, .f32⟩
  | 70 => ⟨S32x16x8x16, .f32⟩
  | 71 => ⟨S32x16x8x16, .f32⟩
  | 72 => ⟨S32x16x8x16, .f32⟩
  | 73 => ⟨S32x16x8x96, .f32⟩
  | 74 => ⟨S32x16x8x128, .f32⟩
  | 75 => ⟨S32x16x2x128, .f32⟩
  | 76 => ⟨S16, .f32⟩
  | 77 => ⟨S16, .f32⟩
  | 78 => ⟨S_, .f32⟩
  | 79 => ⟨S16, .f32⟩
  | 80 => ⟨S16, .f32⟩
  | 81 => ⟨S_, .f32⟩
  | 82 => ⟨S16, .f32⟩
  | 83 => ⟨S16, .f32⟩
  | 84 => ⟨S16, .f32⟩
  | 85 => ⟨S16x1, .f32⟩
  | 86 => ⟨S1x16, .f32⟩
  | 87 => ⟨S16x16, .f32⟩
  | 88 => ⟨S16x16, .f32⟩
  | 89 => ⟨S16x16, .f32⟩
  | 90 => ⟨S16x16, .f32⟩
  | 91 => ⟨S16x1x16, .f32⟩
  | 92 => ⟨S16x16, .f32⟩
  | 93 => ⟨S16x1x16, .f32⟩
  | 94 => ⟨S32x16x2x16, .f32⟩
  | 95 => ⟨S32x16x2x16, .f32⟩
  | 96 => ⟨S1x16x1x16, .f32⟩
  | 97 => ⟨S32x16x2x16, .f32⟩
  | 98 => ⟨S32x16x2x16, .f32⟩
  | 99 => ⟨S1x16x1x16, .f32⟩
  | 100 => ⟨S32x16x2x16, .f32⟩
  | 101 => ⟨S32x16x2x16, .f32⟩
  | 102 => ⟨S32x16x2x16, .f32⟩
  | 103 => ⟨S1x16x1x16, .f32⟩
  | 104 => ⟨S32x16x2x16, .f32⟩
  | 105 => ⟨S32x16x2x16, .f32⟩
  | 106 => ⟨S1x16x1x16, .f32⟩
  | 107 => ⟨S32x16x2x16, .f32⟩
  | 108 => ⟨S32x16x2x16, .f32⟩
  | 109 => ⟨S32x16x2x16, .f32⟩
  | 110 => ⟨S32x16x2x96, .f32⟩
  | 111 => ⟨S32x16x2x128, .f32⟩
  | 112 => ⟨S32x16x1x64, .f32⟩
  | 113 => ⟨S8, .f32⟩
  | 114 => ⟨S8, .f32⟩
  | 115 => ⟨S_, .f32⟩
  | 116 => ⟨S8, .f32⟩
  | 117 => ⟨S8, .f32⟩
  | 118 => ⟨S_, .f32⟩
  | 119 => ⟨S8, .f32⟩
  | 120 => ⟨S8, .f32⟩
  | 121 => ⟨S16, .f32⟩
  | 122 => ⟨S16x1, .f32⟩
  | 123 => ⟨S1x8, .f32⟩
  | 124 => ⟨S16x8, .f32⟩
  | 125 => ⟨S16x8, .f32⟩
  | 126 => ⟨S16x8, .f32⟩
  | 127 => ⟨S16x8, .f32⟩
  | _ => ⟨S32x16x1024, .f32⟩

abbrev hbmTy0_1 (i : Nat) : BufTy := match i % 128 with
  | 0 => ⟨S16x1x8, .f32⟩
  | 1 => ⟨S16x8, .f32⟩
  | 2 => ⟨S16x1x8, .f32⟩
  | 3 => ⟨S32x16x1x8, .f32⟩
  | 4 => ⟨S32x16x1x8, .f32⟩
  | 5 => ⟨S1x16x1x8, .f32⟩
  | 6 => ⟨S32x16x1x8, .f32⟩
  | 7 => ⟨S32x16x1x8, .f32⟩
  | 8 => ⟨S1x16x1x8, .f32⟩
  | 9 => ⟨S32x16x1x8, .f32⟩
  | 10 => ⟨S32x16x1x8, .f32⟩
  | 11 => ⟨S32x16x1x8, .f32⟩
  | 12 => ⟨S1x16x1x8, .f32⟩
  | 13 => ⟨S32x16x1x8, .f32⟩
  | 14 => ⟨S32x16x1x8, .f32⟩
  | 15 => ⟨S1x16x1x8, .f32⟩
  | 16 => ⟨S32x16x1x8, .f32⟩
  | 17 => ⟨S32x16x1x8, .f32⟩
  | 18 => ⟨S32x16x1x8, .f32⟩
  | 19 => ⟨S32x16x1x48, .f32⟩
  | 20 => ⟨S32x16x1x64, .f32⟩
  | 21 => ⟨S32x16x64, .f32⟩
  | 22 => ⟨S32x15x512, .f32⟩
  | 23 => ⟨S4x128x256, .f32⟩
  | 24 => ⟨S1024, .f32⟩
  | 25 => ⟨S32x31x512, .f32⟩
  | 26 => ⟨S32x16x128, .f32⟩
  | 27 => ⟨S32x16x128, .f32⟩
  | 28 => ⟨S32x16x128, .f32⟩
  | 29 => ⟨S_, .i32⟩
  | 30 => ⟨S16, .i32⟩
  | 31 => ⟨S16, .i32⟩
  | 32 => ⟨S_, .i32⟩
  | 33 => ⟨S16, .i32⟩
  | 34 => ⟨S16, .i32⟩
  | 35 => ⟨S16, .f32⟩
  | 36 => ⟨S1x16x1, .f32⟩
  | 37 => ⟨S32x16x128, .f32⟩
  | 38 => ⟨S32x16x128, .f32⟩
  | 39 => ⟨S32x16x128, .f32⟩
  | 40 => ⟨S32x16x128, .f32⟩
  | 41 => ⟨S32x16x128, .f32⟩
  | 42 => ⟨S32x16x128, .f32⟩
  | 43 => ⟨S32x16x128, .f32⟩
  | 44 => ⟨S32x16x128, .f32⟩
  | 45 => ⟨S32x16x128, .f32⟩
  | 46 => ⟨S32x16x128, .f32⟩
  | 47 => ⟨S32x16x128, .f32⟩
  | 48 => ⟨S_, .i32⟩
  | 49 => ⟨S16, .i32⟩
  | 50 => ⟨S16, .i32⟩
  | 51 => ⟨S_, .i32⟩
  | 52 => ⟨S16, .i32⟩
  | 53 => ⟨S16, .i32⟩
  | 54 => ⟨S16, .f32⟩
  | 55 => ⟨S1x16x1, .f32⟩
  | 56 => ⟨S32x16x128, .f32⟩
  | 57 => ⟨S32x16x128, .f32⟩
  | 58 => ⟨S32x16x128, .f32⟩
  | 59 => ⟨S32x16x128, .f32⟩
  | 60 => ⟨S32x16x128, .f32⟩
  | 61 => ⟨S32x16x128, .f32⟩
  | 62 => ⟨S32x16x128, .f32⟩
  | 63 => ⟨S32x16x128, .f32⟩
  | 64 => ⟨S32x16x128, .f32⟩
  | 65 => ⟨S32x16x128, .f32⟩
  | 66 => ⟨S32x16x128, .f32⟩
  | 67 => ⟨S32x16x128, .f32⟩
  | 68 => ⟨S32x16x128, .f32⟩
  | 69 => ⟨S32x16x128, .f32⟩
  | 70 => ⟨S32x16x128, .f32⟩
  | 71 => ⟨S32x16x128, .f32⟩
  | 72 => ⟨S32x16x128, .f32⟩
  | 73 => ⟨S32x16x128, .f32⟩
  | 74 => ⟨S32x16x128, .f32⟩
  | 75 => ⟨S_, .i32⟩
  | 76 => ⟨S16, .i32⟩
  | 77 => ⟨S16, .i32⟩
  | 78 => ⟨S_, .i32⟩
  | 79 => ⟨S16, .i32⟩
  | 80 => ⟨S16, .i32⟩
  | 81 => ⟨S16, .f32⟩
  | 82 => ⟨S1x16x1, .f32⟩
  | 83 => ⟨S32x16x128, .f32⟩
  | 84 => ⟨S32x16x128, .f32⟩
  | 85 => ⟨S32x16x128, .f32⟩
  | 86 => ⟨S32x16x128, .f32⟩
  | 87 => ⟨S32x16x128, .f32⟩
  | 88 => ⟨S32x16x128, .f32⟩
  | 89 => ⟨S32x16x128, .f32⟩
  | 90 => ⟨S32x16x128, .f32⟩
  | 91 => ⟨S32x16x128, .f32⟩
  | 92 => ⟨S32x16x128, .f32⟩
  | 93 => ⟨S32x16x128, .f32⟩
  | 94 => ⟨S32x16x128, .f32⟩
  | 95 => ⟨S32x16x128, .f32⟩
  | 96 => ⟨S32x16x128, .f32⟩
  | 97 => ⟨S32x16x128, .f32⟩
  | 98 => ⟨S32x16x128, .f32⟩
  | 99 => ⟨S32x16x128, .f32⟩
  | 100 => ⟨S32x16x128, .f32⟩
  | 101 => ⟨S32x16x128, .f32⟩
  | 102 => ⟨S32x16x128, .f32⟩
  | 103 => ⟨S32x16x128, .f32⟩
  | 104 => ⟨S32x16x128, .f32⟩
  | 105 => ⟨S32x16x128, .f32⟩
  | 106 => ⟨S32x16x128, .f32⟩
  | 107 => ⟨S32x16x128, .f32⟩
  | 108 => ⟨S32x16x128, .f32⟩
  | 109 => ⟨S32x16x128, .f32⟩
  | 110 => ⟨S32x16x128, .f32⟩
  | 111 => ⟨S32x16x128, .f32⟩
  | 112 => ⟨S32x16x128, .f32⟩
  | 113 => ⟨S32x16x128, .f32⟩
  | 114 => ⟨S32x16x128, .f32⟩
  | 115 => ⟨S32x16x128, .f32⟩
  | 116 => ⟨S32x16x128, .f32⟩
  | 117 => ⟨S32x16x128, .f32⟩
  | 118 => ⟨S_, .i32⟩
  | 119 => ⟨S16, .i32⟩
  | 120 => ⟨S16, .i32⟩
  | 121 => ⟨S_, .i32⟩
  | 122 => ⟨S16, .i32⟩
  | 123 => ⟨S16, .i32⟩
  | 124 => ⟨S16, .f32⟩
  | 125 => ⟨S1x16x1, .f32⟩
  | 126 => ⟨S32x16x128, .f32⟩
  | 127 => ⟨S32x16x128, .f32⟩
  | _ => ⟨S32x16x1024, .f32⟩

abbrev hbmTy0_2 (i : Nat) : BufTy := match i % 128 with
  | 0 => ⟨S32x16x128, .f32⟩
  | 1 => ⟨S32x16x128, .f32⟩
  | 2 => ⟨S32x16x1x128, .f32⟩
  | 3 => ⟨S32x16x1x128, .f32⟩
  | 4 => ⟨S32x16x1x128, .f32⟩
  | 5 => ⟨S32x16x1x128, .f32⟩
  | 6 => ⟨S32x16x4x128, .f32⟩
  | 7 => ⟨S4x256x32x16, .f32⟩
  | 8 => ⟨S32x16x4x256, .f32⟩
  | 9 => ⟨S32x16x1024, .f32⟩
  | 10 => ⟨S1x1x1024, .f32⟩
  | 11 => ⟨S32x16x1024, .f32⟩
  | 12 => ⟨S32x16x1024, .f32⟩
  | 13 => ⟨S_, .f32⟩
  | 14 => ⟨S32x16x8x128, .f32⟩
  | 15 => ⟨S32x16x8x128, .f32⟩
  | 16 => ⟨S32x16x8x128, .bf16⟩
  | 17 => ⟨S32x8x16x128, .bf16⟩
  | 18 => ⟨S32x16x256, .f32⟩
  | 19 => ⟨S_, .f32⟩
  | 20 => ⟨S32x16x8, .f32⟩
  | 21 => ⟨S32x16x8, .f32⟩
  | 22 => ⟨S_, .f32⟩
  | 23 => ⟨S32x16x56, .f32⟩
  | 24 => ⟨S32x16x128, .f32⟩
  | 25 => ⟨S32x16x1024, .f32⟩
  | 26 => ⟨S32x16x1024, .f32⟩
  | 27 => ⟨S_, .f32⟩
  | 28 => ⟨S32x16x1024, .f32⟩
  | 29 => ⟨S32x16x1024, .f32⟩
  | 30 => ⟨S_, .f32⟩
  | 31 => ⟨S32x16x1024, .f32⟩
  | 32 => ⟨S32x16x1024, .f32⟩
  | 33 => ⟨S32x16x1024, .f32⟩
  | 34 => ⟨S32x16x1024, .f32⟩
  | 35 => ⟨S32x16x1024, .f32⟩
  | 36 => ⟨S_, .f32⟩
  | 37 => ⟨S32x16x1024, .f32⟩
  | 38 => ⟨S32x16x1024, .f32⟩
  | 39 => ⟨S_, .f32⟩
  | 40 => ⟨S32x16x1024, .f32⟩
  | 41 => ⟨S32x16x1024, .f32⟩
  | _ => ⟨S32x16x1024, .f32⟩

abbrev hbmTy (i : Nat) : BufTy := match i / 128 with
  | 0 => hbmTy0_0 i
  | 1 => hbmTy0_1 i
  | 2 => hbmTy0_2 i
  | _ => ⟨S32x16x1024, .f32⟩

abbrev bufTy : (tb : Table) → Fin (tcTables nBuf tb) → BufTy
  | .hbm, ⟨i, _⟩ => hbmTy i
  | _, _ => ⟨S32x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_cst_4 : Ref sig .tc := ⟨.hbm, 78, rfl⟩
abbrev main_v66 : Ref sig .tc := ⟨.hbm, 79, rfl⟩
abbrev main_v67 : Ref sig .tc := ⟨.hbm, 80, rfl⟩
abbrev main_cst_5 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_cst_6 : Ref sig .tc := ⟨.hbm, 115, rfl⟩
abbrev main_v101 : Ref sig .tc := ⟨.hbm, 116, rfl⟩
abbrev main_v102 : Ref sig .tc := ⟨.hbm, 117, rfl⟩
abbrev main_cst_7 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_c_8 : Ref sig .tc := ⟨.hbm, 157, rfl⟩
abbrev main_v141 : Ref sig .tc := ⟨.hbm, 158, rfl⟩
abbrev main_v142 : Ref sig .tc := ⟨.hbm, 159, rfl⟩
abbrev main_c_9 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_c_10 : Ref sig .tc := ⟨.hbm, 176, rfl⟩
abbrev main_v158 : Ref sig .tc := ⟨.hbm, 177, rfl⟩
abbrev main_v159 : Ref sig .tc := ⟨.hbm, 178, rfl⟩
abbrev main_c_11 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_c_12 : Ref sig .tc := ⟨.hbm, 203, rfl⟩
abbrev main_v183 : Ref sig .tc := ⟨.hbm, 204, rfl⟩
abbrev main_v184 : Ref sig .tc := ⟨.hbm, 205, rfl⟩
abbrev main_c_13 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_c_14 : Ref sig .tc := ⟨.hbm, 246, rfl⟩
abbrev main_v224 : Ref sig .tc := ⟨.hbm, 247, rfl⟩
abbrev main_v225 : Ref sig .tc := ⟨.hbm, 248, rfl⟩
abbrev main_c_15 : Ref sig .tc := ⟨.hbm, 249, rfl⟩
abbrev main_v226 : Ref sig .tc := ⟨.hbm, 250, rfl⟩
abbrev main_v227 : Ref sig .tc := ⟨.hbm, 251, rfl⟩
abbrev main_v228 : Ref sig .tc := ⟨.hbm, 252, rfl⟩
abbrev main_v229 : Ref sig .tc := ⟨.hbm, 253, rfl⟩
abbrev main_v230 : Ref sig .tc := ⟨.hbm, 254, rfl⟩
abbrev main_v231 : Ref sig .tc := ⟨.hbm, 255, rfl⟩
abbrev main_v232 : Ref sig .tc := ⟨.hbm, 256, rfl⟩
abbrev main_v233 : Ref sig .tc := ⟨.hbm, 257, rfl⟩
abbrev main_v234 : Ref sig .tc := ⟨.hbm, 258, rfl⟩
abbrev main_v235 : Ref sig .tc := ⟨.hbm, 259, rfl⟩
abbrev main_v236 : Ref sig .tc := ⟨.hbm, 260, rfl⟩
abbrev main_v237 : Ref sig .tc := ⟨.hbm, 261, rfl⟩
abbrev main_v238 : Ref sig .tc := ⟨.hbm, 262, rfl⟩
abbrev main_v239 : Ref sig .tc := ⟨.hbm, 263, rfl⟩
abbrev main_v240 : Ref sig .tc := ⟨.hbm, 264, rfl⟩
abbrev main_v241 : Ref sig .tc := ⟨.hbm, 265, rfl⟩
abbrev main_v242 : Ref sig .tc := ⟨.hbm, 266, rfl⟩
abbrev main_v243 : Ref sig .tc := ⟨.hbm, 267, rfl⟩
abbrev main_v244 : Ref sig .tc := ⟨.hbm, 268, rfl⟩
abbrev main_cst_16 : Ref sig .tc := ⟨.hbm, 269, rfl⟩
abbrev main_v245 : Ref sig .tc := ⟨.hbm, 270, rfl⟩
abbrev main_v246 : Ref sig .tc := ⟨.hbm, 271, rfl⟩
abbrev main_v247 : Ref sig .tc := ⟨.hbm, 272, rfl⟩
abbrev main_v248 : Ref sig .tc := ⟨.hbm, 273, rfl⟩
abbrev main_v249 : Ref sig .tc := ⟨.hbm, 274, rfl⟩
abbrev main_cst_17 : Ref sig .tc := ⟨.hbm, 275, rfl⟩
abbrev main_v250 : Ref sig .tc := ⟨.hbm, 276, rfl⟩
abbrev main_v251 : Ref sig .tc := ⟨.hbm, 277, rfl⟩
abbrev main_cst_18 : Ref sig .tc := ⟨.hbm, 278, rfl⟩
abbrev main_v252 : Ref sig .tc := ⟨.hbm, 279, rfl⟩
abbrev main_v253 : Ref sig .tc := ⟨.hbm, 280, rfl⟩
abbrev main_v254 : Ref sig .tc := ⟨.hbm, 281, rfl⟩
abbrev main_v255 : Ref sig .tc := ⟨.hbm, 282, rfl⟩
abbrev main_cst_19 : Ref sig .tc := ⟨.hbm, 283, rfl⟩
abbrev main_v256 : Ref sig .tc := ⟨.hbm, 284, rfl⟩
abbrev main_v257 : Ref sig .tc := ⟨.hbm, 285, rfl⟩
abbrev main_cst_20 : Ref sig .tc := ⟨.hbm, 286, rfl⟩
abbrev main_v258 : Ref sig .tc := ⟨.hbm, 287, rfl⟩
abbrev main_v259 : Ref sig .tc := ⟨.hbm, 288, rfl⟩
abbrev main_v260 : Ref sig .tc := ⟨.hbm, 289, rfl⟩
abbrev main_v261 : Ref sig .tc := ⟨.hbm, 290, rfl⟩
abbrev main_v262 : Ref sig .tc := ⟨.hbm, 291, rfl⟩
abbrev main_cst_21 : Ref sig .tc := ⟨.hbm, 292, rfl⟩
abbrev main_v263 : Ref sig .tc := ⟨.hbm, 293, rfl⟩
abbrev main_v264 : Ref sig .tc := ⟨.hbm, 294, rfl⟩
abbrev main_cst_22 : Ref sig .tc := ⟨.hbm, 295, rfl⟩
abbrev main_v265 : Ref sig .tc := ⟨.hbm, 296, rfl⟩
abbrev main_v266 : Ref sig .tc := ⟨.hbm, 297, rfl⟩

abbrev nD : Nat := 1
abbrev τ : Topo := Topo.v7x

variable {F : FTy → Type} [FloatOps F]
-- ==== Kernel2.lean ====
abbrev S2x16384x1024 : Shape := ⟨3, ![2, 16384, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1x1024 : Shape := ⟨2, ![1, 1024]⟩
abbrev S32768x1024 : Shape := ⟨2, ![32768, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S256x1024 : Shape := ⟨2, ![256, 1024]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 27
  | .vmem => 16
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S2x16384x1024, .f32⟩
  | .hbm, ⟨4, _⟩ => ⟨S1x1024x1024, .f32⟩
  | .hbm, ⟨5, _⟩ => ⟨S1x1024x5632, .f32⟩
  | .hbm, ⟨6, _⟩ => ⟨S1x2816x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S1024x1024, .f32⟩
  | .hbm, ⟨15, _⟩ => ⟨S1024x1024, .bf16⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1024x5632, .f32⟩
  | .hbm, ⟨21, _⟩ => ⟨S1024x5632, .bf16⟩
  | .hbm, ⟨22, _⟩ => ⟨S2816x1024, .f32⟩
  | .hbm, ⟨23, _⟩ => ⟨S2816x1024, .bf16⟩
  | .hbm, ⟨24, _⟩ => ⟨S1024, .f32⟩
  | .hbm, ⟨25, _⟩ => ⟨S1x1024, .f32⟩
  | .hbm, ⟨26, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x5632, .bf16⟩
  | .local _ .vmem, ⟨12, _⟩ => ⟨S2816x1024, .bf16⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel2Ideal.lean ====
abbrev S2x16384x1024 : Shape := ⟨3, ![2, 16384, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1x1024 : Shape := ⟨2, ![1, 1024]⟩
abbrev S32768x1024 : Shape := ⟨2, ![32768, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S256x1024 : Shape := ⟨2, ![256, 1024]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 27
  | .vmem => 16
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S2x16384x1024, .f32⟩
  | .hbm, ⟨4, _⟩ => ⟨S1x1024x1024, .f32⟩
  | .hbm, ⟨5, _⟩ => ⟨S1x1024x5632, .f32⟩
  | .hbm, ⟨6, _⟩ => ⟨S1x2816x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S1024x1024, .f32⟩
  | .hbm, ⟨15, _⟩ => ⟨S1024x1024, .bf16⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1024x5632, .f32⟩
  | .hbm, ⟨21, _⟩ => ⟨S1024x5632, .bf16⟩
  | .hbm, ⟨22, _⟩ => ⟨S2816x1024, .f32⟩
  | .hbm, ⟨23, _⟩ => ⟨S2816x1024, .bf16⟩
  | .hbm, ⟨24, _⟩ => ⟨S1024, .f32⟩
  | .hbm, ⟨25, _⟩ => ⟨S1x1024, .f32⟩
  | .hbm, ⟨26, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x5632, .bf16⟩
  | .local _ .vmem, ⟨12, _⟩ => ⟨S2816x1024, .bf16⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S2x16384x1024 : Shape := ⟨3, ![2, 16384, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1024x5632 : Shape := ⟨2, ![1024, 5632]⟩
abbrev S2x16384x5632 : Shape := ⟨3, ![2, 16384, 5632]⟩
abbrev S2x16384x2816 : Shape := ⟨3, ![2, 16384, 2816]⟩
abbrev S2816x1024 : Shape := ⟨2, ![2816, 1024]⟩
abbrev S32768x1024 : Shape := ⟨2, ![32768, 1024]⟩

abbrev nBuf : Space → Nat
  | .hbm => 84
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S2x16384x1024, .f32⟩
  | .hbm, ⟨4, _⟩ => ⟨S1x1024x1024, .f32⟩
  | .hbm, ⟨5, _⟩ => ⟨S1x1024x5632, .f32⟩
  | .hbm, ⟨6, _⟩ => ⟨S1x2816x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S2x16384x1024, .f32⟩
  | .hbm, ⟨11, _⟩ => ⟨S2x16384x1024, .f32⟩
  | .hbm, ⟨12, _⟩ => ⟨S1024x1024, .f32⟩
  | .hbm, ⟨13, _⟩ => ⟨S2x16384x1024, .f32⟩
  | .hbm, ⟨14, _⟩ => ⟨S1024, .f32⟩
  | .hbm, ⟨15, _⟩ => ⟨S2x16384x1024, .f32⟩
  | .hbm, ⟨16, _⟩ => ⟨S_, .f32⟩
  | .hbm, ⟨17, _⟩ => ⟨S2x16384, .f32⟩
  | .hbm, ⟨18, _⟩ => ⟨S2x16384x1, .f32⟩
  | .hbm, ⟨19, _⟩ => ⟨S_, .f32⟩
  | .hbm, ⟨20, _⟩ => ⟨S2x16384x1, .f32⟩
  | .hbm, ⟨21, _⟩ => ⟨S2x16384x1, .f32⟩
  | .hbm, ⟨22, _⟩ => ⟨S_, .f32⟩
  | .hbm, ⟨23, _⟩ => ⟨S2x16384x1, .f32⟩
  | .hbm, ⟨24, _⟩ => ⟨S2x16384x1, .f32⟩
  | .hbm, ⟨25, _⟩ => ⟨S2x16384x1, .f32⟩
  | .hbm, ⟨26, _⟩ => ⟨S2x16384x1024, .f32⟩
  | .hbm, ⟨27, _⟩ => ⟨S2x16384x1024, .f32⟩
  | .hbm, ⟨28, _⟩ => ⟨S1x1x1024, .f32⟩
  | .hbm, ⟨29, _⟩ => ⟨S2x16384x1024, .f32⟩
  | .hbm, ⟨30, _⟩ => ⟨S2x16384x1024, .f32⟩
  | .hbm, ⟨31, _⟩ => ⟨S2x16384x1024, .f32⟩
  | .hbm, ⟨32, _⟩ => ⟨S1024, .f32⟩
  | .hbm, ⟨33, _⟩ => ⟨S2x16384x1024, .f32⟩
  | .hbm, ⟨34, _⟩ => ⟨S_, .f32⟩
  | .hbm, ⟨35, _⟩ => ⟨S2x16384, .f32⟩
  | .hbm, ⟨36, _⟩ => ⟨S2x16384x1, .f32⟩
  | .hbm, ⟨37, _⟩ => ⟨S_, .f32⟩
  | .hbm, ⟨38, _⟩ => ⟨S2x16384x1, .f32⟩
  | .hbm, ⟨39, _⟩ => ⟨S2x16384x1, .f32⟩
  | .hbm, ⟨40, _⟩ => ⟨S_, .f32⟩
  | .hbm, ⟨41, _⟩ => ⟨S2x16384x1, .f32⟩
  | .hbm, ⟨42, _⟩ => ⟨S2x16384x1, .f32⟩
  | .hbm, ⟨43, _⟩ => ⟨S2x16384x1, .f32⟩
  | .hbm, ⟨44, _⟩ => ⟨S2x16384x1024, .f32⟩
  | .hbm, ⟨45, _⟩ => ⟨S2x16384x1024, .f32⟩
  | .hbm, ⟨46, _⟩ => ⟨S1x1x1024, .f32⟩
  | .hbm, ⟨47, _⟩ => ⟨S2x16384x1024, .f32⟩
  | .hbm, ⟨48, _⟩ => ⟨S2x16384x1024, .f32⟩
  | .hbm, ⟨49, _⟩ => ⟨S1024x5632, .f32⟩
  | .hbm, ⟨50, _⟩ => ⟨S2x16384x5632, .f32⟩
  | .hbm, ⟨51, _⟩ => ⟨S2x16384x2816, .f32⟩
  | .hbm, ⟨52, _⟩ => ⟨S2x16384x2816, .f32⟩
  | .hbm, ⟨53, _⟩ => ⟨S2x16384x2816, .f32⟩
  | .hbm, ⟨54, _⟩ => ⟨S2x16384x2816, .f32⟩
  | .hbm, ⟨55, _⟩ => ⟨S_, .f32⟩
  | .hbm, ⟨56, _⟩ => ⟨S2x16384x2816, .f32⟩
  | .hbm, ⟨57, _⟩ => ⟨S2x16384x2816, .f32⟩
  | .hbm, ⟨58, _⟩ => ⟨S_, .f32⟩
  | .hbm, ⟨59, _⟩ => ⟨S2x16384x2816, .f32⟩
  | .hbm, ⟨60, _⟩ => ⟨S2x16384x2816, .f32⟩
  | .hbm, ⟨61, _⟩ => ⟨S2x16384x2816, .f32⟩
  | .hbm, ⟨62, _⟩ => ⟨S2x16384x2816, .f32⟩
  | .hbm, ⟨63, _⟩ => ⟨S2816x1024, .f32⟩
  | .hbm, ⟨64, _⟩ => ⟨S2x16384x1024, .f32⟩
  | .hbm, ⟨65, _⟩ => ⟨S1024, .f32⟩
  | .hbm, ⟨66, _⟩ => ⟨S2x16384x1024, .f32⟩
  | .hbm, ⟨67, _⟩ => ⟨S_, .f32⟩
  | .hbm, ⟨68, _⟩ => ⟨S2x16384, .f32⟩
  | .hbm, ⟨69, _⟩ => ⟨S2x16384x1, .f32⟩
  | .hbm, ⟨70, _⟩ => ⟨S_, .f32⟩
  | .hbm, ⟨71, _⟩ => ⟨S2x16384x1, .f32⟩
  | .hbm, ⟨72, _⟩ => ⟨S2x16384x1, .f32⟩
  | .hbm, ⟨73, _⟩ => ⟨S_, .f32⟩
  | .hbm, ⟨74, _⟩ => ⟨S2x16384x1, .f32⟩
  | .hbm, ⟨75, _⟩ => ⟨S2x16384x1, .f32⟩
  | .hbm, ⟨76, _⟩ => ⟨S2x16384x1, .f32⟩
  | .hbm, ⟨77, _⟩ => ⟨S2x16384x1024, .f32⟩
  | .hbm, ⟨78, _⟩ => ⟨S2x16384x1024, .f32⟩
  | .hbm, ⟨79, _⟩ => ⟨S1x1x1024, .f32⟩
  | .hbm, ⟨80, _⟩ => ⟨S2x16384x1024, .f32⟩
  | .hbm, ⟨81, _⟩ => ⟨S2x16384x1024, .f32⟩
  | .hbm, ⟨82, _⟩ => ⟨S2x16384x1024, .f32⟩
  | .hbm, ⟨83, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_5 : Ref sig .tc := ⟨.hbm, 67, rfl⟩
abbrev main_v43 : Ref sig .tc := ⟨.hbm, 68, rfl⟩
abbrev main_v44 : Ref sig .tc := ⟨.hbm, 69, rfl⟩
abbrev main_cst_6 : Ref sig .tc := ⟨.hbm, 70, rfl⟩
abbrev main_v45 : Ref sig .tc := ⟨.hbm, 71, rfl⟩
abbrev main_v46 : Ref sig .tc := ⟨.hbm, 72, rfl⟩
abbrev main_cst_7 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩

abbrev nD : Nat := 1
abbrev τ : Topo := Topo.v7x

variable {F : FTy → Type} [FloatOps F]
-- ==== Kernel3.lean ====
abbrev S32x16x1024 : Shape := ⟨3, ![32, 16, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1x1024 : Shape := ⟨2, ![1, 1024]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S256x1024 : Shape := ⟨2, ![256, 1024]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 27
  | .vmem => 16
  | .smem => 0
  | _ => 0

abbrev bufTy : (tb : Table) → Fin (tcTables nBuf tb) → BufTy
  | .hbm, ⟨0, _⟩ => ⟨S32x16x1024, .f32⟩
  | .hbm, ⟨1, _⟩ => ⟨S32x16x1024, .f32⟩
  | .hbm, ⟨2, _⟩ => ⟨S32x16x1024, .f32⟩
  | .hbm, ⟨3, _⟩ => ⟨S32x16x1024, .f32⟩
  | .hbm, ⟨4, _⟩ => ⟨S1x1024x1024, .f32⟩
  | .hbm, ⟨5, _⟩ => ⟨S1x1024x5632, .f32⟩
  | .hbm, ⟨6, _⟩ => ⟨S1x2816x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S1024x1024, .bf16⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1024x5632, .f32⟩
  | .hbm, ⟨21, _⟩ => ⟨S1024x5632, .bf16⟩
  | .hbm, ⟨22, _⟩ => ⟨S2816x1024, .f32⟩
  | .hbm, ⟨23, _⟩ => ⟨S2816x1024, .bf16⟩
  | .hbm, ⟨24, _⟩ => ⟨S1024, .f32⟩
  | .hbm, ⟨25, _⟩ => ⟨S1x1024, .f32⟩
  | .hbm, ⟨26, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x5632, .bf16⟩
  | .local _ .vmem, ⟨12, _⟩ => ⟨S2816x1024, .bf16⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | _, _ => ⟨S32x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S32x16x1024 : Shape := ⟨3, ![32, 16, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S32x16 : Shape := ⟨2, ![32, 16]⟩
abbrev S32x16x1 : Shape := ⟨3, ![32, 16, 1]⟩
abbrev S1x1x1024 : Shape := ⟨3, ![1, 1, 1024]⟩
abbrev S1024x5632 : Shape := ⟨2, ![1024, 5632]⟩
abbrev S32x16x5632 : Shape := ⟨3, ![32, 16, 5632]⟩
abbrev S32x16x2816 : Shape := ⟨3, ![32, 16, 2816]⟩
abbrev S2816x1024 : Shape := ⟨2, ![2816, 1024]⟩
abbrev S512x1024 : Shape := ⟨2, ![512, 1024]⟩

abbrev nBuf : Space → Nat
  | .hbm => 84
  | .vmem => 0
  | .smem => 0
  | _ => 0

abbrev bufTy : (tb : Table) → Fin (tcTables nBuf tb) → BufTy
  | .hbm, ⟨0, _⟩ => ⟨S32x16x1024, .f32⟩
  | .hbm, ⟨1, _⟩ => ⟨S32x16x1024, .f32⟩
  | .hbm, ⟨2, _⟩ => ⟨S32x16x1024, .f32⟩
  | .hbm, ⟨3, _⟩ => ⟨S32x16x1024, .f32⟩
  | .hbm, ⟨4, _⟩ => ⟨S1x1024x1024, .f32⟩
  | .hbm, ⟨5, _⟩ => ⟨S1x1024x5632, .f32⟩
  | .hbm, ⟨6, _⟩ => ⟨S1x2816x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S32x16x1024, .f32⟩
  | .hbm, ⟨11, _⟩ => ⟨S32x16x1024, .f32⟩
  | .hbm, ⟨12, _⟩ => ⟨S1024x1024, .f32⟩
  | .hbm, ⟨13, _⟩ => ⟨S32x16x1024, .f32⟩
  | .hbm, ⟨14, _⟩ => ⟨S1024, .f32⟩
  | .hbm, ⟨15, _⟩ => ⟨S32x16x1024, .f32⟩
  | .hbm, ⟨16, _⟩ => ⟨S_, .f32⟩
  | .hbm, ⟨17, _⟩ => ⟨S32x16, .f32⟩
  | .hbm, ⟨18, _⟩ => ⟨S32x16x1, .f32⟩
  | .hbm, ⟨19, _⟩ => ⟨S_, .f32⟩
  | .hbm, ⟨20, _⟩ => ⟨S32x16x1, .f32⟩
  | .hbm, ⟨21, _⟩ => ⟨S32x16x1, .f32⟩
  | .hbm, ⟨22, _⟩ => ⟨S_, .f32⟩
  | .hbm, ⟨23, _⟩ => ⟨S32x16x1, .f32⟩
  | .hbm, ⟨24, _⟩ => ⟨S32x16x1, .f32⟩
  | .hbm, ⟨25, _⟩ => ⟨S32x16x1, .f32⟩
  | .hbm, ⟨26, _⟩ => ⟨S32x16x1024, .f32⟩
  | .hbm, ⟨27, _⟩ => ⟨S32x16x1024, .f32⟩
  | .hbm, ⟨28, _⟩ => ⟨S1x1x1024, .f32⟩
  | .hbm, ⟨29, _⟩ => ⟨S32x16x1024, .f32⟩
  | .hbm, ⟨30, _⟩ => ⟨S32x16x1024, .f32⟩
  | .hbm, ⟨31, _⟩ => ⟨S32x16x1024, .f32⟩
  | .hbm, ⟨32, _⟩ => ⟨S1024, .f32⟩
  | .hbm, ⟨33, _⟩ => ⟨S32x16x1024, .f32⟩
  | .hbm, ⟨34, _⟩ => ⟨S_, .f32⟩
  | .hbm, ⟨35, _⟩ => ⟨S32x16, .f32⟩
  | .hbm, ⟨36, _⟩ => ⟨S32x16x1, .f32⟩
  | .hbm, ⟨37, _⟩ => ⟨S_, .f32⟩
  | .hbm, ⟨38, _⟩ => ⟨S32x16x1, .f32⟩
  | .hbm, ⟨39, _⟩ => ⟨S32x16x1, .f32⟩
  | .hbm, ⟨40, _⟩ => ⟨S_, .f32⟩
  | .hbm, ⟨41, _⟩ => ⟨S32x16x1, .f32⟩
  | .hbm, ⟨42, _⟩ => ⟨S32x16x1, .f32⟩
  | .hbm, ⟨43, _⟩ => ⟨S32x16x1, .f32⟩
  | .hbm, ⟨44, _⟩ => ⟨S32x16x1024, .f32⟩
  | .hbm, ⟨45, _⟩ => ⟨S32x16x1024, .f32⟩
  | .hbm, ⟨46, _⟩ => ⟨S1x1x1024, .f32⟩
  | .hbm, ⟨47, _⟩ => ⟨S32x16x1024, .f32⟩
  | .hbm, ⟨48, _⟩ => ⟨S32x16x1024, .f32⟩
  | .hbm, ⟨49, _⟩ => ⟨S1024x5632, .f32⟩
  | .hbm, ⟨50, _⟩ => ⟨S32x16x5632, .f32⟩
  | .hbm, ⟨51, _⟩ => ⟨S32x16x2816, .f32⟩
  | .hbm, ⟨52, _⟩ => ⟨S32x16x2816, .f32⟩
  | .hbm, ⟨53, _⟩ => ⟨S32x16x2816, .f32⟩
  | .hbm, ⟨54, _⟩ => ⟨S32x16x2816, .f32⟩
  | .hbm, ⟨55, _⟩ => ⟨S_, .f32⟩
  | .hbm, ⟨56, _⟩ => ⟨S32x16x2816, .f32⟩
  | .hbm, ⟨57, _⟩ => ⟨S32x16x2816, .f32⟩
  | .hbm, ⟨58, _⟩ => ⟨S_, .f32⟩
  | .hbm, ⟨59, _⟩ => ⟨S32x16x2816, .f32⟩
  | .hbm, ⟨60, _⟩ => ⟨S32x16x2816, .f32⟩
  | .hbm, ⟨61, _⟩ => ⟨S32x16x2816, .f32⟩
  | .hbm, ⟨62, _⟩ => ⟨S32x16x2816, .f32⟩
  | .hbm, ⟨63, _⟩ => ⟨S2816x1024, .f32⟩
  | .hbm, ⟨64, _⟩ => ⟨S32x16x1024, .f32⟩
  | .hbm, ⟨65, _⟩ => ⟨S1024, .f32⟩
  | .hbm, ⟨66, _⟩ => ⟨S32x16x1024, .f32⟩
  | .hbm, ⟨67, _⟩ => ⟨S_, .f32⟩
  | .hbm, ⟨68, _⟩ => ⟨S32x16, .f32⟩
  | .hbm, ⟨69, _⟩ => ⟨S32x16x1, .f32⟩
  | .hbm, ⟨70, _⟩ => ⟨S_, .f32⟩
  | .hbm, ⟨71, _⟩ => ⟨S32x16x1, .f32⟩
  | .hbm, ⟨72, _⟩ => ⟨S32x16x1, .f32⟩
  | .hbm, ⟨73, _⟩ => ⟨S_, .f32⟩
  | .hbm, ⟨74, _⟩ => ⟨S32x16x1, .f32⟩
  | .hbm, ⟨75, _⟩ => ⟨S32x16x1, .f32⟩
  | .hbm, ⟨76, _⟩ => ⟨S32x16x1, .f32⟩
  | .hbm, ⟨77, _⟩ => ⟨S32x16x1024, .f32⟩
  | .hbm, ⟨78, _⟩ => ⟨S32x16x1024, .f32⟩
  | .hbm, ⟨79, _⟩ => ⟨S1x1x1024, .f32⟩
  | .hbm, ⟨80, _⟩ => ⟨S32x16x1024, .f32⟩
  | .hbm, ⟨81, _⟩ => ⟨S32x16x1024, .f32⟩
  | .hbm, ⟨82, _⟩ => ⟨S32x16x1024, .f32⟩
  | .hbm, ⟨83, _⟩ => ⟨S512x1024, .f32⟩
  | _, _ => ⟨S32x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_5 : Ref sig .tc := ⟨.hbm, 67, rfl⟩
abbrev main_v43 : Ref sig .tc := ⟨.hbm, 68, rfl⟩
abbrev main_v44 : Ref sig .tc := ⟨.hbm, 69, rfl⟩
abbrev main_cst_6 : Ref sig .tc := ⟨.hbm, 70, rfl⟩
abbrev main_v45 : Ref sig .tc := ⟨.hbm, 71, rfl⟩
abbrev main_v46 : Ref sig .tc := ⟨.hbm, 72, rfl⟩
abbrev main_cst_7 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩

abbrev nD : Nat := 1
abbrev τ : Topo := Topo.v7x

variable {F : FTy → Type} [FloatOps F]
-- ==== Kernel4.lean ====
abbrev S2x16384x1024 : Shape := ⟨3, ![2, 16384, 1024]⟩
abbrev S1x1024x4680 : Shape := ⟨3, ![1, 1024, 4680]⟩
abbrev S1x4x128x256 : Shape := ⟨4, ![1, 4, 128, 256]⟩
abbrev S1x1024 : Shape := ⟨2, ![1, 1024]⟩
abbrev S_ : Shape := ⟨0, ![]⟩
abbrev S2x15x512 : Shape := ⟨3, ![2, 15, 512]⟩
abbrev S2x1x512 : Shape := ⟨3, ![2, 1, 512]⟩
abbrev S2x16x512 : Shape := ⟨3, ![2, 16, 512]⟩
abbrev S1024x4680 : Shape := ⟨2, ![1024, 4680]⟩
abbrev S1024x2632 : Shape := ⟨2, ![1024, 2632]⟩
abbrev S1024x56 : Shape := ⟨2, ![1024, 56]⟩
abbrev S1024x2048 : Shape := ⟨2, ![1024, 2048]⟩
abbrev S1024x4736 : Shape := ⟨2, ![1024, 4736]⟩
abbrev S1024 : Shape := ⟨1, ![1024]⟩
abbrev S4x128x256 : Shape := ⟨3, ![4, 128, 256]⟩
abbrev S16384 : Shape := ⟨1, ![16384]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x96 : Shape := ⟨2, ![16384, 96]⟩
abbrev S16384x128 : Shape := ⟨2, ![16384, 128]⟩
abbrev S1x16384x1x128 : Shape := ⟨4, ![1, 16384, 1, 128]⟩
abbrev S8 : Shape := ⟨1, ![8]⟩
abbrev S1x8 : Shape := ⟨2, ![1, 8]⟩
abbrev S16384x8 : Shape := ⟨2, ![16384, 8]⟩
abbrev S16384x48 : Shape := ⟨2, ![16384, 48]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S2x16384x512 : Shape := ⟨3, ![2, 16384, 512]⟩
abbrev S2x8x16384x128 : Shape := ⟨4, ![2, 8, 16384, 128]⟩
abbrev S2x16384x256 : Shape := ⟨3, ![2, 16384, 256]⟩
abbrev S2x128x256x1024 : Shape := ⟨4, ![2, 128, 256, 1024]⟩
abbrev S2x16384x128 : Shape := ⟨3, ![2, 16384, 128]⟩
abbrev S2x2x32x128x512 : Shape := ⟨5, ![2, 2, 32, 128, 512]⟩
abbrev S2x2x32x512x128 : Shape := ⟨5, ![2, 2, 32, 512, 128]⟩
abbrev S2x32x512x256 : Shape := ⟨4, ![2, 32, 512, 256]⟩
abbrev S2x128x8x128 : Shape := ⟨4, ![2, 128, 8, 128]⟩
abbrev S1x256x1024 : Shape := ⟨3, ![1, 256, 1024]⟩
abbrev S1x16x512 : Shape := ⟨3, ![1, 16, 512]⟩
abbrev S256x128 : Shape := ⟨2, ![256, 128]⟩
abbrev S1x256x512 : Shape := ⟨3, ![1, 256, 512]⟩
abbrev S1x8x256x128 : Shape := ⟨4, ![1, 8, 256, 128]⟩
abbrev S1x256x256 : Shape := ⟨3, ![1, 256, 256]⟩
abbrev S1x2x256x1024 : Shape := ⟨4, ![1, 2, 256, 1024]⟩
abbrev S1x256x128 : Shape := ⟨3, ![1, 256, 128]⟩
abbrev S1x2x1x128x256 : Shape := ⟨5, ![1, 2, 1, 128, 256]⟩
abbrev S1x2x1x256x128 : Shape := ⟨5, ![1, 2, 1, 256, 128]⟩
abbrev S1x1x256x256 : Shape := ⟨4, ![1, 1, 256, 256]⟩
abbrev S1x2x8x128 : Shape := ⟨4, ![1, 2, 8, 128]⟩
abbrev S288x512 : Shape := ⟨2, ![288, 512]⟩
abbrev S256x1024 : Shape := ⟨2, ![256, 1024]⟩
abbrev S256 : Shape := ⟨1, ![256]⟩
abbrev S256x1 : Shape := ⟨2, ![256, 1]⟩
abbrev S256x4736 : Shape := ⟨2, ![256, 4736]⟩
abbrev S1x1x256x128 : Shape := ⟨4, ![1, 1, 256, 128]⟩
abbrev S128x256 : Shape := ⟨2, ![128, 256]⟩
abbrev S1x1x1x128x256 : Shape := ⟨5, ![1, 1, 1, 128, 256]⟩
abbrev S1x1x1x256x128 : Shape := ⟨5, ![1, 1, 1, 256, 128]⟩
abbrev S256x256 : Shape := ⟨2, ![256, 256]⟩
abbrev S128x128 : Shape := ⟨2, ![128, 128]⟩
abbrev S1x1x128x128 : Shape := ⟨4, ![1, 1, 128, 128]⟩
abbrev S8x128 : Shape := ⟨2, ![8, 128]⟩
abbrev S1x1x8x128 : Shape := ⟨4, ![1, 1, 8, 128]⟩
abbrev S256x512 : Shape := ⟨2, ![256, 512]⟩
abbrev S16x512 : Shape := ⟨2, ![16, 512]⟩
abbrev S280x512 : Shape := ⟨2, ![280, 512]⟩
abbrev S272x512 : Shape := ⟨2, ![272, 512]⟩
abbrev S264x512 : Shape := ⟨2, ![264, 512]⟩
abbrev S1x128x256 : Shape := ⟨3, ![1, 128, 256]⟩

abbrev nBuf : Space → Nat
  | .hbm => 97
  | .vmem => 44
  | .smem => 0
  | _ => 0

abbrev bufTy : (tb : Table) → Fin (tcTables nBuf tb) → BufTy
  | .hbm, ⟨0, _⟩ => ⟨S2x16384x1024, .f32⟩
  | .hbm, ⟨1, _⟩ => ⟨S1x1024x4680, .f32⟩
  | .hbm, ⟨2, _⟩ => ⟨S1x4x128x256, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S2x15x512, .f32⟩
  | .hbm, ⟨7, _⟩ => ⟨S_, .f32⟩
  | .hbm, ⟨8, _⟩ => ⟨S2x1x512, .f32⟩
  | .hbm, ⟨9, _⟩ => ⟨S2x16x512, .f32⟩
  | .hbm, ⟨10, _⟩ => ⟨S1024x4680, .f32⟩
  | .hbm, ⟨11, _⟩ => ⟨S1024x2632, .f32⟩
  | .hbm, ⟨12, _⟩ => ⟨S_, .f32⟩
  | .hbm, ⟨13, _⟩ => ⟨S1024x56, .f32⟩
  | .hbm, ⟨14, _⟩ => ⟨S1024x2048, .f32⟩
  | .hbm, ⟨15, _⟩ => ⟨S1024x4736, .f32⟩
  | .hbm, ⟨16, _⟩ => ⟨S1024x4736, .bf16⟩
  | .hbm, ⟨17, _⟩ => ⟨S1024, .f32⟩
  | .hbm, ⟨18, _⟩ => ⟨S1x1024, .f32⟩
  | .hbm, ⟨19, _⟩ => ⟨S4x128x256, .f32⟩
  | .hbm, ⟨20, _⟩ => ⟨S4x128x256, .bf16⟩
  | .hbm, ⟨21, _⟩ => ⟨S1024, .f32⟩
  | .hbm, ⟨22, _⟩ => ⟨S1x1024, .f32⟩
  | .hbm, ⟨23, _⟩ => ⟨S16384, .i32⟩
  | .hbm, ⟨24, _⟩ => ⟨S_, .i32⟩
  | .hbm, ⟨25, _⟩ => ⟨S16384, .i32⟩
  | .hbm, ⟨26, _⟩ => ⟨S16384, .i32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S16384, .f32⟩
  | .hbm, ⟨36, _⟩ => ⟨S16384x1, .f32⟩
  | .hbm, ⟨37, _⟩ => ⟨S1x16, .f32⟩
  | .hbm, ⟨38, _⟩ => ⟨S16384x16, .f32⟩
  | .hbm, ⟨39, _⟩ => ⟨S16384x16, .f32⟩
  | .hbm, ⟨40, _⟩ => ⟨S16384x16, .f32⟩
  | .hbm, ⟨41, _⟩ => ⟨S16384x16, .f32⟩
  | .hbm, ⟨42, _⟩ => ⟨S16384x16, .f32⟩
  | .hbm, ⟨43, _⟩ => ⟨S_, .f32⟩
  | .hbm, ⟨44, _⟩ => ⟨S16384x96, .f32⟩
  | .hbm, ⟨45, _⟩ => ⟨S16384x128, .f32⟩
  | .hbm, ⟨46, _⟩ => ⟨S16384x16, .f32⟩
  | .hbm, ⟨47, _⟩ => ⟨S_, .f32⟩
  | .hbm, ⟨48, _⟩ => ⟨S16384x96, .f32⟩
  | .hbm, ⟨49, _⟩ => ⟨S16384x128, .f32⟩
  | .hbm, ⟨50, _⟩ => ⟨S1x16384x1x128, .f32⟩
  | .hbm, ⟨51, _⟩ => ⟨S1x16384x1x128, .f32⟩
  | .hbm, ⟨52, _⟩ => ⟨S16384x128, .f32⟩
  | .hbm, ⟨53, _⟩ => ⟨S1x16384x1x128, .f32⟩
  | .hbm, ⟨54, _⟩ => ⟨S1x16384x1x128, .f32⟩
  | .hbm, ⟨55, _⟩ => ⟨S16384x128, .f32⟩
  | .hbm, ⟨56, _⟩ => ⟨S8, .f32⟩
  | .hbm, ⟨57, _⟩ => ⟨S8, .f32⟩
  | .hbm, ⟨58, _⟩ => ⟨S_, .f32⟩
  | .hbm, ⟨59, _⟩ => ⟨S8, .f32⟩
  | .hbm, ⟨60, _⟩ => ⟨S8, .f32⟩
  | .hbm, ⟨61, _⟩ => ⟨S_, .f32⟩
  | .hbm, ⟨62, _⟩ => ⟨S8, .f32⟩
  | .hbm, ⟨63, _⟩ => ⟨S8, .f32⟩
  | .hbm, ⟨64, _⟩ => ⟨S16384, .f32⟩
  | .hbm, ⟨65, _⟩ => ⟨S16384x1, .f32⟩
  | .hbm, ⟨66, _⟩ => ⟨S1x8, .f32⟩
  | .hbm, ⟨67, _⟩ => ⟨S16384x8, .f32⟩
  | .hbm, ⟨68, _⟩ => ⟨S16384x8, .f32⟩
  | .hbm, ⟨69, _⟩ => ⟨S16384x8, .f32⟩
  | .hbm, ⟨70, _⟩ => ⟨S16384x8, .f32⟩
  | .hbm, ⟨71, _⟩ => ⟨S16384x8, .f32⟩
  | .hbm, ⟨72, _⟩ => ⟨S_, .f32⟩
  | .hbm, ⟨73, _⟩ => ⟨S16384x48, .f32⟩
  | .hbm, ⟨74, _⟩ => ⟨S16384x64, .f32⟩
  | .hbm, ⟨75, _⟩ => ⟨S16384x8, .f32⟩
  | .hbm, ⟨76, _⟩ => ⟨S_, .f32⟩
  | .hbm, ⟨77, _⟩ => ⟨S16384x48, .f32⟩
  | .hbm, ⟨78, _⟩ => ⟨S16384x64, .f32⟩
  | .hbm, ⟨79, _⟩ => ⟨S1x16384x1x64, .f32⟩
  | .hbm, ⟨80, _⟩ => ⟨S1x16384x2x64, .f32⟩
  | .hbm, ⟨81, _⟩ => ⟨S16384x128, .f32⟩
  | .hbm, ⟨82, _⟩ => ⟨S1x16384x1x64, .f32⟩
  | .hbm, ⟨83, _⟩ => ⟨S1x16384x2x64, .f32⟩
  | .hbm, ⟨84, _⟩ => ⟨S16384x128, .f32⟩
  | .hbm, ⟨85, _⟩ => ⟨S2x16384x512, .f32⟩
  | .hbm, ⟨86, _⟩ => ⟨S2x8x16384x128, .bf16⟩
  | .hbm, ⟨87, _⟩ => ⟨S2x16384x256, .f32⟩
  | .hbm, ⟨88, _⟩ => ⟨S2x16384x256, .f32⟩
  | .hbm, ⟨89, _⟩ => ⟨S2x128x256x1024, .bf16⟩
  | .hbm, ⟨90, _⟩ => ⟨S2x16384x128, .f32⟩
  | .hbm, ⟨91, _⟩ => ⟨S2x16384x1024, .f32⟩
  | .hbm, ⟨92, _⟩ => ⟨S2x16384x1024, .f32⟩
  | .hbm, ⟨93, _⟩ => ⟨S2x2x32x128x512, .bf16⟩
  | .hbm, ⟨94, _⟩ => ⟨S2x2x32x512x128, .bf16⟩
  | .hbm, ⟨95, _⟩ => ⟨S2x32x512x256, .bf16⟩
  | .hbm, ⟨96, _⟩ => ⟨S2x128x8x128, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x4736, .bf16⟩
  | .local _ .vmem, ⟨4, _⟩ => ⟨S1x16x512, .f32⟩
  | .local _ .vmem, ⟨5, _⟩ => ⟨S1x16x512, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S4x128x256, .bf16⟩
  | .local _ .vmem, ⟨15, _⟩ => ⟨S1x1024, .f32⟩
  | .local _ .vmem, ⟨16, _⟩ => ⟨S1x256x512, .f32⟩
  | .local _ .vmem, ⟨17, _⟩ => ⟨S1x256x512, .f32⟩
  | .local _ .vmem, ⟨18, _⟩ => ⟨S1x8x256x128, .bf16⟩
  | .local _ .vmem, ⟨19, _⟩ => ⟨S1x8x256x128, .bf16⟩
  | .local _ .vmem, ⟨20, _⟩ => ⟨S1x256x256, .f32⟩
  | .local _ .vmem, ⟨21, _⟩ => ⟨S1x256x256, .f32⟩
  | .local _ .vmem, ⟨22, _⟩ => ⟨S1x256x256, .f32⟩
  | .local _ .vmem, ⟨23, _⟩ => ⟨S1x256x256, .f32⟩
  | .local _ .vmem, ⟨24, _⟩ => ⟨S1x2x256x1024, .bf16⟩
  | .local _ .vmem, ⟨25, _⟩ => ⟨S1x2x256x1024, .bf16⟩
  | .local _ .vmem, ⟨26, _⟩ => ⟨S1x256x128, .f32⟩
  | .local _ .vmem, ⟨27, _⟩ => ⟨S1x256x128, .f32⟩
  | .local _ .vmem, ⟨28, _⟩ => ⟨S1x256x1024, .f32⟩
  | .local _ .vmem, ⟨29, _⟩ => ⟨S1x256x1024, .f32⟩
  | .local _ .vmem, ⟨30, _⟩ => ⟨S1x256x1024, .f32⟩
  | .local _ .vmem, ⟨31, _⟩ => ⟨S1x256x1024, .f32⟩
  | .local _ .vmem, ⟨32, _⟩ => ⟨S1x2x1x128x256, .bf16⟩
  | .local _ .vmem, ⟨33, _⟩ => ⟨S1x2x1x128x256, .bf16⟩
  | .local _ .vmem, ⟨34, _⟩ => ⟨S1x2x1x256x128, .bf16⟩
  | .local _ .vmem, ⟨35, _⟩ => ⟨S1x2x1x256x128, .bf16⟩
  | .local _ .vmem, ⟨36, _⟩ => ⟨S1x1x256x256, .bf16⟩
  | .local _ .vmem, ⟨37, _⟩ => ⟨S1x1x256x256, .bf16⟩
  | .local _ .vmem, ⟨38, _⟩ => ⟨S1x2x8x128, .f32⟩
  | .local _ .vmem, ⟨39, _⟩ => ⟨S1x2x8x128, .f32⟩
  | .local _ .vmem, ⟨40, _⟩ => ⟨S288x512, .f32⟩
  | .local _ .vmem, ⟨41, _⟩ => ⟨S288x512, .f32⟩
  | .local _ .vmem, ⟨42, _⟩ => ⟨S288x512, .f32⟩
  | .local _ .vmem, ⟨43, _⟩ => ⟨S288x512, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_8 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_9 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68_0 : Ref sig .tc := ⟨.hbm, 85, rfl⟩
abbrev main_v68_1 : Ref sig .tc := ⟨.hbm, 86, rfl⟩
abbrev main_v68_2 : Ref sig .tc := ⟨.hbm, 87, rfl⟩
abbrev main_v68_3 : Ref sig .tc := ⟨.hbm, 88, rfl⟩
abbrev main_v68_4 : Ref sig .tc := ⟨.hbm, 89, rfl⟩
abbrev main_v68_5 : Ref sig .tc := ⟨.hbm, 90, rfl⟩
abbrev main_v68_6 : Ref sig .tc := ⟨.hbm, 91, rfl⟩
abbrev main_v68_7 : Ref sig .tc := ⟨.hbm, 92, rfl⟩
abbrev main_v68_8 : Ref sig .tc := ⟨.hbm, 93, rfl⟩
abbrev main_v68_9 : Ref sig .tc := ⟨.hbm, 94, rfl⟩
abbrev main_v68_10 : Ref sig .tc := ⟨.hbm, 95, rfl⟩
abbrev main_v68_11 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_scratch3 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![arg0.toNat, c0_i32_10.toNat, v16.toNat, c0_i32_11.toNat, v26.toNat]

def cc0_transform_19 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![arg0.toNat, c0_i32_10.toNat, v16.toNat, v26.toNat, c0_i32_11.toNat]

def cc0_transform_20 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![arg0.toNat, v16.toNat, v26.toNat, c0_i32_10.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4736 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S4x128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x2x1x128x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x2x1x256x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1x256x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x2x8x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== Reference4Ideal.lean ====
abbrev S2x16384x1024 : Shape := ⟨3, ![2, 16384, 1024]⟩
abbrev S1x1024x4680 : Shape := ⟨3, ![1, 1024, 4680]⟩
abbrev S1x4x128x256 : Shape := ⟨4, ![1, 4, 128, 256]⟩
abbrev S1x1024 : Shape := ⟨2, ![1, 1024]⟩
abbrev S16384 : Shape := ⟨1, ![16384]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1024x4680 : Shape := ⟨2, ![1024, 4680]⟩
abbrev S2x16384x4680 : Shape := ⟨3, ![2, 16384, 4680]⟩
abbrev S2x16384x512 : Shape := ⟨3, ![2, 16384, 512]⟩
abbrev S2x16384x256 : Shape := ⟨3, ![2, 16384, 256]⟩
abbrev S2x16384x64 : Shape := ⟨3, ![2, 16384, 64]⟩
abbrev S2x16384x8 : Shape := ⟨3, ![2, 16384, 8]⟩
abbrev S2x16384x8x128 : Shape := ⟨4, ![2, 16384, 8, 128]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x1x16 : Shape := ⟨3, ![16384, 1, 16]⟩
abbrev S2x16384x8x16 : Shape := ⟨4, ![2, 16384, 8, 16]⟩
abbrev S1x16384x1x16 : Shape := ⟨4, ![1, 16384, 1, 16]⟩
abbrev S2x16384x8x96 : Shape := ⟨4, ![2, 16384, 8, 96]⟩
abbrev S2x16384x2x128 : Shape := ⟨4, ![2, 16384, 2, 128]⟩
abbrev S2x16384x2x16 : Shape := ⟨4, ![2, 16384, 2, 16]⟩
abbrev S2x16384x2x96 : Shape := ⟨4, ![2, 16384, 2, 96]⟩
abbrev S2x16384x1x64 : Shape := ⟨4, ![2, 16384, 1, 64]⟩
abbrev S8 : Shape := ⟨1, ![8]⟩
abbrev S1x8 : Shape := ⟨2, ![1, 8]⟩
abbrev S16384x8 : Shape := ⟨2, ![16384, 8]⟩
abbrev S16384x1x8 : Shape := ⟨3, ![16384, 1, 8]⟩
abbrev S2x16384x1x8 : Shape := ⟨4, ![2, 16384, 1, 8]⟩
abbrev S1x16384x1x8 : Shape := ⟨4, ![1, 16384, 1, 8]⟩
abbrev S2x16384x1x48 : Shape := ⟨4, ![2, 16384, 1, 48]⟩
abbrev S2x8x16384x128 : Shape := ⟨4, ![2, 8, 16384, 128]⟩
abbrev S2x16384x56 : Shape := ⟨3, ![2, 16384, 56]⟩
abbrev S2x16384x128 : Shape := ⟨3, ![2, 16384, 128]⟩

abbrev nBuf : Space → Nat
  | .hbm => 166
  | .vmem => 0
  | .smem => 0
  | _ => 0

abbrev hbmTy0_0 (i : Nat) : BufTy := match i % 128 with
  | 0 => ⟨S2x16384x1024, .f32⟩
  | 1 => ⟨S1x1024x4680, .f32⟩
  | 2 => ⟨S1x4x128x256, .f32⟩
  | 3 => ⟨S1x1024, .f32⟩
  | 4 => ⟨S1x1024, .f32⟩
  | 5 => ⟨S16384, .i32⟩
  | 6 => ⟨S1024, .f32⟩
  | 7 => ⟨S2x16384x1024, .f32⟩
  | 8 => ⟨S_, .f32⟩
  | 9 => ⟨S2x16384, .f32⟩
  | 10 => ⟨S2x16384x1, .f32⟩
  | 11 => ⟨S_, .f32⟩
  | 12 => ⟨S2x16384x1, .f32⟩
  | 13 => ⟨S2x16384x1, .f32⟩
  | 14 => ⟨S_, .f32⟩
  | 15 => ⟨S2x16384x1, .f32⟩
  | 16 => ⟨S2x16384x1, .f32⟩
  | 17 => ⟨S2x16384x1, .f32⟩
  | 18 => ⟨S2x16384x1024, .f32⟩
  | 19 => ⟨S2x16384x1024, .f32⟩
  | 20 => ⟨S1x1x1024, .f32⟩
  | 21 => ⟨S2x16384x1024, .f32⟩
  | 22 => ⟨S2x16384x1024, .f32⟩
  | 23 => ⟨S1024x4680, .f32⟩
  | 24 => ⟨S2x16384x4680, .f32⟩
  | 25 => ⟨S2x16384x512, .f32⟩
  | 26 => ⟨S2x16384x1024, .f32⟩
  | 27 => ⟨S2x16384x256, .f32⟩
  | 28 => ⟨S2x16384x256, .f32⟩
  | 29 => ⟨S2x16384x512, .f32⟩
  | 30 => ⟨S2x16384x64, .f32⟩
  | 31 => ⟨S2x16384x8, .f32⟩
  | 32 => ⟨S2x16384x1024, .f32⟩
  | 33 => ⟨S2x16384x1024, .f32⟩
  | 34 => ⟨S2x16384x8x128, .f32⟩
  | 35 => ⟨S16, .f32⟩
  | 36 => ⟨S16, .f32⟩
  | 37 => ⟨S_, .f32⟩
  | 38 => ⟨S16, .f32⟩
  | 39 => ⟨S16, .f32⟩
  | 40 => ⟨S_, .f32⟩
  | 41 => ⟨S16, .f32⟩
  | 42 => ⟨S16, .f32⟩
  | 43 => ⟨S16384, .f32⟩
  | 44 => ⟨S16384x1, .f32⟩
  | 45 => ⟨S1x16, .f32⟩
  | 46 => ⟨S16384x16, .f32⟩
  | 47 => ⟨S16384x16, .f32⟩
  | 48 => ⟨S16384x16, .f32⟩
  | 49 => ⟨S16384x16, .f32⟩
  | 50 => ⟨S16384x1x16, .f32⟩
  | 51 => ⟨S16384x16, .f32⟩
  | 52 => ⟨S16384x1x16, .f32⟩
  | 53 => ⟨S2x16384x8x16, .f32⟩
  | 54 => ⟨S2x16384x8x16, .f32⟩
  | 55 => ⟨S1x16384x1x16, .f32⟩
  | 56 => ⟨S2x16384x8x16, .f32⟩
  | 57 => ⟨S2x16384x8x16, .f32⟩
  | 58 => ⟨S1x16384x1x16, .f32⟩
  | 59 => ⟨S2x16384x8x16, .f32⟩
  | 60 => ⟨S2x16384x8x16, .f32⟩
  | 61 => ⟨S2x16384x8x16, .f32⟩
  | 62 => ⟨S1x16384x1x16, .f32⟩
  | 63 => ⟨S2x16384x8x16, .f32⟩
  | 64 => ⟨S2x16384x8x16, .f32⟩
  | 65 => ⟨S1x16384x1x16, .f32⟩
  | 66 => ⟨S2x16384x8x16, .f32⟩
  | 67 => ⟨S2x16384x8x16, .f32⟩
  | 68 => ⟨S2x16384x8x16, .f32⟩
  | 69 => ⟨S2x16384x8x96, .f32⟩
  | 70 => ⟨S2x16384x8x128, .f32⟩
  | 71 => ⟨S2x16384x2x128, .f32⟩
  | 72 => ⟨S16, .f32⟩
  | 73 => ⟨S16, .f32⟩
  | 74 => ⟨S_, .f32⟩
  | 75 => ⟨S16, .f32⟩
  | 76 => ⟨S16, .f32⟩
  | 77 => ⟨S_, .f32⟩
  | 78 => ⟨S16, .f32⟩
  | 79 => ⟨S16, .f32⟩
  | 80 => ⟨S16384, .f32⟩
  | 81 => ⟨S16384x1, .f32⟩
  | 82 => ⟨S1x16, .f32⟩
  | 83 => ⟨S16384x16, .f32⟩
  | 84 => ⟨S16384x16, .f32⟩
  | 85 => ⟨S16384x16, .f32⟩
  | 86 => ⟨S16384x16, .f32⟩
  | 87 => ⟨S16384x1x16, .f32⟩
  | 88 => ⟨S16384x16, .f32⟩
  | 89 => ⟨S16384x1x16, .f32⟩
  | 90 => ⟨S2x16384x2x16, .f32⟩
  | 91 => ⟨S2x16384x2x16, .f32⟩
  | 92 => ⟨S1x16384x1x16, .f32⟩
  | 93 => ⟨S2x16384x2x16, .f32⟩
  | 94 => ⟨S2x16384x2x16, .f32⟩
  | 95 => ⟨S1x16384x1x16, .f32⟩
  | 96 => ⟨S2x16384x2x16, .f32⟩
  | 97 => ⟨S2x16384x2x16, .f32⟩
  | 98 => ⟨S2x16384x2x16, .f32⟩
  | 99 => ⟨S1x16384x1x16, .f32⟩
  | 100 => ⟨S2x16384x2x16, .f32⟩
  | 101 => ⟨S2x16384x2x16, .f32⟩
  | 102 => ⟨S1x16384x1x16, .f32⟩
  | 103 => ⟨S2x16384x2x16, .f32⟩
  | 104 => ⟨S2x16384x2x16, .f32⟩
  | 105 => ⟨S2x16384x2x16, .f32⟩
  | 106 => ⟨S2x16384x2x96, .f32⟩
  | 107 => ⟨S2x16384x2x128, .f32⟩
  | 108 => ⟨S2x16384x1x64, .f32⟩
  | 109 => ⟨S8, .f32⟩
  | 110 => ⟨S8, .f32⟩
  | 111 => ⟨S_, .f32⟩
  | 112 => ⟨S8, .f32⟩
  | 113 => ⟨S8, .f32⟩
  | 114 => ⟨S_, .f32⟩
  | 115 => ⟨S8, .f32⟩
  | 116 => ⟨S8, .f32⟩
  | 117 => ⟨S16384, .f32⟩
  | 118 => ⟨S16384x1, .f32⟩
  | 119 => ⟨S1x8, .f32⟩
  | 120 => ⟨S16384x8, .f32⟩
  | 121 => ⟨S16384x8, .f32⟩
  | 122 => ⟨S16384x8, .f32⟩
  | 123 => ⟨S16384x8, .f32⟩
  | 124 => ⟨S16384x1x8, .f32⟩
  | 125 => ⟨S16384x8, .f32⟩
  | 126 => ⟨S16384x1x8, .f32⟩
  | 127 => ⟨S2x16384x1x8, .f32⟩
  | _ => ⟨S2x16384x1024, .f32⟩

abbrev hbmTy0_1 (i : Nat) : BufTy := match i % 128 with
  | 0 => ⟨S2x16384x1x8, .f32⟩
  | 1 => ⟨S1x16384x1x8, .f32⟩
  | 2 => ⟨S2x16384x1x8, .f32⟩
  | 3 => ⟨S2x16384x1x8, .f32⟩
  | 4 => ⟨S1x16384x1x8, .f32⟩
  | 5 => ⟨S2x16384x1x8, .f32⟩
  | 6 => ⟨S2x16384x1x8, .f32⟩
  | 7 => ⟨S2x16384x1x8, .f32⟩
  | 8 => ⟨S1x16384x1x8, .f32⟩
  | 9 => ⟨S2x16384x1x8, .f32⟩
  | 10 => ⟨S2x16384x1x8, .f32⟩
  | 11 => ⟨S1x16384x1x8, .f32⟩
  | 12 => ⟨S2x16384x1x8, .f32⟩
  | 13 => ⟨S2x16384x1x8, .f32⟩
  | 14 => ⟨S2x16384x1x8, .f32⟩
  | 15 => ⟨S2x16384x1x48, .f32⟩
  | 16 => ⟨S2x16384x1x64, .f32⟩
  | 17 => ⟨S2x16384x64, .f32⟩
  | 18 => ⟨S_, .f32⟩
  | 19 => ⟨S2x16384x8x128, .f32⟩
  | 20 => ⟨S2x16384x8x128, .f32⟩
  | 21 => ⟨S2x16384x8x128, .bf16⟩
  | 22 => ⟨S2x8x16384x128, .bf16⟩
  | 23 => ⟨S2x16384x256, .f32⟩
  | 24 => ⟨S_, .f32⟩
  | 25 => ⟨S2x16384x8, .f32⟩
  | 26 => ⟨S2x16384x8, .f32⟩
  | 27 => ⟨S_, .f32⟩
  | 28 => ⟨S2x16384x56, .f32⟩
  | 29 => ⟨S2x16384x128, .f32⟩
  | 30 => ⟨S2x16384x1024, .f32⟩
  | 31 => ⟨S2x16384x1024, .f32⟩
  | 32 => ⟨S_, .f32⟩
  | 33 => ⟨S2x16384x1024, .f32⟩
  | 34 => ⟨S2x16384x1024, .f32⟩
  | 35 => ⟨S_, .f32⟩
  | 36 => ⟨S2x16384x1024, .f32⟩
  | 37 => ⟨S2x16384x1024, .f32⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_cst_4 : Ref sig .tc := ⟨.hbm, 74, rfl⟩
abbrev main_v64 : Ref sig .tc := ⟨.hbm, 75, rfl⟩
abbrev main_v65 : Ref sig .tc := ⟨.hbm, 76, rfl⟩
abbrev main_cst_5 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_cst_6 : Ref sig .tc := ⟨.hbm, 111, rfl⟩
abbrev main_v99 : Ref sig .tc := ⟨.hbm, 112, rfl⟩
abbrev main_v100 : Ref sig .tc := ⟨.hbm, 113, rfl⟩
abbrev main_cst_7 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_cst_8 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_cst_9 : Ref sig .tc := ⟨.hbm, 152, rfl⟩
abbrev main_v137 : Ref sig .tc := ⟨.hbm, 153, rfl⟩
abbrev main_v138 : Ref sig .tc := ⟨.hbm, 154, rfl⟩
abbrev main_cst_10 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_cst_11 : Ref sig .tc := ⟨.hbm, 160, rfl⟩
abbrev main_v143 : Ref sig .tc := ⟨.hbm, 161, rfl⟩
abbrev main_v144 : Ref sig .tc := ⟨.hbm, 162, rfl⟩
abbrev main_cst_12 : Ref sig .tc := ⟨.hbm, 163, rfl⟩
abbrev main_v145 : Ref sig .tc := ⟨.hbm, 164, rfl⟩
abbrev main_v146 : Ref sig .tc := ⟨.hbm, 165, rfl⟩

abbrev nD : Nat := 1
abbrev τ : Topo := Topo.v7x

variable {F : FTy → Type} [FloatOps F]
-- ==== Proof.FinishRow.lean ====
module
public import Idealize.ShloMosaic.Lib.Pointwise
@[expose] public section
noncomputable section
namespace Cert.Finish
open Idealize.ShloMosaic

/-- The single-precision pattern of 1024, the length of a row. -/
abbrev dLen : EReal := Ideal.ofBits .f32 0x44800000#32
/-- The pattern of the small constant added to a row's mean square. -/
abbrev eps : EReal := Ideal.ofBits .f32 0x358637BD#32

/-- A row divided by the root of its mean square, then scaled lane by lane by `g`. -/
def rms (v g : Fin 1024 → EReal) (j : Fin 1024) : EReal :=
  v j * Ideal.rsqrt (Ideal.div (∑ k, v k * v k) dLen + eps) * g j

/-- A row times a matrix. -/
def rowMul {n p : ℕ} (v : Fin n → EReal) (w : Fin n → Fin p → EReal) (j : Fin p) : EReal := ∑ k, v k * w k j

/-- `1 / (1 + e^(-z))`. -/
def sigm (z : EReal) : EReal := Ideal.div 1 (1 + Ideal.exp (-z))

/-- The row after the mixing half: the input row plus the normalised product of the merged branches with `w_out`. -/
def mixed (x pa sgb b : Fin 1024 → EReal) (wo : Fin 1024 → Fin 1024 → EReal) (g1 : Fin 1024 → EReal) (j : Fin 1024) :
    EReal :=
  x j + rms (rowMul (fun k => pa k + sgb k * b k) wo) g1 j

/-- The gated activation: lane `j` of the first half of the widened row, times its sigmoid, times lane `j` of the second half. -/
def gated (h : Fin 1024 → EReal) (wgu : Fin 1024 → Fin 5632 → EReal) (j : Fin 2816) : EReal :=
  rowMul h wgu ⟨j.val, by omega⟩ * sigm (rowMul h wgu ⟨j.val, by omega⟩) * rowMul h wgu ⟨2816 + j.val, by omega⟩

/-- The closing half of the layer on one row. -/
def closed (x1 g2 : Fin 1024 → EReal) (wgu : Fin 1024 → Fin 5632 → EReal) (wd : Fin 2816 → Fin 1024 → EReal)
    (g3 : Fin 1024 → EReal) (j : Fin 1024) : EReal :=
  x1 j + rms (rowMul (gated (rms x1 g2) wgu) wd) g3 j

end Cert.Finish
end
end
-- ==== Proof.FinishBlock.lean ====
module
public import proofs.«01_k».proof.Proof.Gen.Kernel2Ideal.Skeleton
public import proofs.«01_k».proof.Proof.FinishRow
public import Idealize.ShloMosaic.Lib.Pointwise
@[expose] public section
set_option maxRecDepth 16384
noncomputable section
namespace Cert.Kernel2Ideal.Block
open Idealize.ShloMosaic Idealize.ShloMosaic.TcCoe Idealize.SL.Sem
open Cert.Kernel2Ideal Cert.Kernel2Ideal.Gen Cert.Finish

/-- The first half of the body at row `r`, lane `j` of a block. -/
theorem pay2_at (pa sgb b x : FVec Ideal S256x1024 .f32) (wo : FVec Ideal S1024x1024 .bf16) (g1 : FVec Ideal S1x1024 .f32)
    (r : Fin 256) (j : Fin 1024) :
    k0_pay2 (F := Ideal) pa sgb b wo x g1 (ix2 r j)
      = mixed (fun k => x (ix2 r k)) (fun k => pa (ix2 r k)) (fun k => sgb (ix2 r k)) (fun k => b (ix2 r k))
          (fun k l => wo (ix2 k l)) (fun k => g1 (ix2 0 k)) j := by
  pointwise [k0_pay2]
  simp only [mixed, rms, rowMul, zero_add, dLen, eps]
/-- The scale row as the body reads it. -/
theorem pay3_at (g2 : FVec Ideal S1x1024 .f32) (k : Fin 1024) : k0_pay3 (F := Ideal) g2 (ix2 0 k) = g2 (ix2 0 k) := by
  pointwise [k0_pay3]

/-- The mean square of the first half's row `r`, with the small constant added. -/
theorem pay4_at (pa sgb b x : FVec Ideal S256x1024 .f32) (wo : FVec Ideal S1024x1024 .bf16) (g1 : FVec Ideal S1x1024 .f32)
    (r : Fin 256) :
    k0_pay4 (F := Ideal) pa sgb b wo x g1 (ix2 r 0)
      = Ideal.div (∑ k : Fin 1024, k0_pay2 (F := Ideal) pa sgb b wo x g1 (ix2 r k)
          * k0_pay2 (F := Ideal) pa sgb b wo x g1 (ix2 r k)) dLen + eps := by
  pointwise [k0_pay4]

/-- The second half of the body at row `r`, lane `j`, once the row's mean square is known. -/
theorem pay1_at (x1 : FVec Ideal S256x1024 .f32) (g2 g3 : FVec Ideal S1x1024 .f32) (ms : FVec Ideal S256x1 .f32)
    (wgu : FVec Ideal S1024x5632 .bf16) (wd : FVec Ideal S2816x1024 .bf16)
    (hms : ∀ r : Fin 256, ms (ix2 r 0) = Ideal.div (∑ k : Fin 1024, x1 (ix2 r k) * x1 (ix2 r k)) dLen + eps)
    (r : Fin 256) (j : Fin 1024) :
    k0_pay1 (F := Ideal) x1 g2 ms wgu wd g3 (ix2 r j)
      = closed (fun k => x1 (ix2 r k)) (fun k => g2 (ix2 0 k)) (fun k l => wgu (ix2 k l)) (fun k l => wd (ix2 k l))
          (fun k => g3 (ix2 0 k)) j := by
  pointwise [k0_pay1]
  simp only [closed, gated, rms, rowMul, zero_add, sigm, hms, dLen, eps, zero_sub]

/-- The whole body at row `r`, lane `j` of a block: the closing half of the layer on the blocks' row `r`. -/
theorem body_at (x pa sgb b : FVec Ideal S256x1024 .f32) (wo : FVec Ideal S1024x1024 .bf16) (g1 g2 g3 : FVec Ideal S1x1024 .f32)
    (wgu : FVec Ideal S1024x5632 .bf16) (wd : FVec Ideal S2816x1024 .bf16) (r : Fin 256) (j : Fin 1024) :
    k0_pay1 (F := Ideal) (k0_pay2 pa sgb b wo x g1) (k0_pay3 g2) (k0_pay4 pa sgb b wo x g1) wgu wd g3 (ix2 r j)
      = closed (mixed (fun k => x (ix2 r k)) (fun k => pa (ix2 r k)) (fun k => sgb (ix2 r k)) (fun k => b (ix2 r k))
            (fun k l => wo (ix2 k l)) (fun k => g1 (ix2 0 k)))
          (fun k => g2 (ix2 0 k)) (fun k l => wgu (ix2 k l)) (fun k l => wd (ix2 k l)) (fun k => g3 (ix2 0 k)) j := by
  rw [pay1_at _ _ _ _ _ _ (pay4_at _ _ _ _ _ _)]
  simp only [pay2_at, pay3_at]

end Cert.Kernel2Ideal.Block
end
end
-- ==== Proof.FinishArray.lean ====
module
public import proofs.«01_k».proof.Proof.Gen.Kernel2Ideal.Value
public import proofs.«01_k».proof.Proof.FinishBlock
public import Idealize.ShloMosaic.Lib.Claim
public import Idealize.ShloMosaic.Lib.Pipeline.ValueKit
@[expose] public section
set_option maxRecDepth 16384
noncomputable section
namespace Cert.Kernel2Ideal.Arr
open Idealize.ShloMosaic Idealize.ShloMosaic.TcCoe Idealize.SL.Sem
open Idealize.ShloMosaic.Pipeline (Dat)
open Cert.Kernel2Ideal Cert.Kernel2Ideal.Gen Cert.Finish

variable (m : (ℓ : Loc nD τ sig) → Buf (Elt Ideal) ℓ) (c : Dev nD)

/-- The block index of every window at every point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0] :=
  (by decide +kernel : ∀ t : Fin grid0.N, _)

/-- Batch entry and row of the array's row `n` once batch and row axes are merged. -/
abbrev ent (n : Fin 32768) : Fin 2 := ⟨n.val / 16384, by omega⟩
abbrev pos (n : Fin 32768) : Fin 16384 := ⟨n.val % 16384, by omega⟩

/-- Row `r` of block `t` is row `256 t + r` of the array. -/
abbrev rowOf (t : Fin cfg0.N) (r : Fin 256) : Fin 32768 := ⟨t.val * 256 + r.val, by
  have h : t.val < 128 := t.isLt
  omega⟩

abbrev X : FVec Ideal S2x16384x1024 .f32 := m ((c : Thread nD τ).loc main_arg0)
abbrev PA : FVec Ideal S2x16384x1024 .f32 := m ((c : Thread nD τ).loc main_arg1)
abbrev SGB : FVec Ideal S2x16384x1024 .f32 := m ((c : Thread nD τ).loc main_arg2)
abbrev B : FVec Ideal S2x16384x1024 .f32 := m ((c : Thread nD τ).loc main_arg3)
abbrev WO : FVec Ideal S1x1024x1024 .f32 := m ((c : Thread nD τ).loc main_arg4)
abbrev WGU : FVec Ideal S1x1024x5632 .f32 := m ((c : Thread nD τ).loc main_arg5)
abbrev WD : FVec Ideal S1x2816x1024 .f32 := m ((c : Thread nD τ).loc main_arg6)
abbrev G1 : FVec Ideal S1x1024 .f32 := m ((c : Thread nD τ).loc main_arg7)
abbrev G2 : FVec Ideal S1x1024 .f32 := m ((c : Thread nD τ).loc main_arg8)
abbrev G3 : FVec Ideal S1x1024 .f32 := m ((c : Thread nD τ).loc main_arg9)

/-! The blocks the body reads at point `t`, as the arguments' entries. -/

theorem read0 (t : Fin cfg0.N) (r : Fin 256) (k : Fin 1024) :
    (iblk m c 0 t : FVec Ideal S256x1024 .f32) (ix2 r k) = X m c (ix3 (ent (rowOf t r)) (pos (rowOf t r)) k) := by
  blk_simp [iblk, idx t]; entry_read; pointwise; blk_ext [idx t]
theorem read1 (t : Fin cfg0.N) (r : Fin 256) (k : Fin 1024) :
    (iblk m c 1 t : FVec Ideal S256x1024 .f32) (ix2 r k) = PA m c (ix3 (ent (rowOf t r)) (pos (rowOf t r)) k) := by
  blk_simp [iblk, idx t]; entry_read; pointwise; blk_ext [idx t]
theorem read2 (t : Fin cfg0.N) (r : Fin 256) (k : Fin 1024) :
    (iblk m c 2 t : FVec Ideal S256x1024 .f32) (ix2 r k) = SGB m c (ix3 (ent (rowOf t r)) (pos (rowOf t r)) k) := by
  blk_simp [iblk, idx t]; entry_read; pointwise; blk_ext [idx t]
theorem read3 (t : Fin cfg0.N) (r : Fin 256) (k : Fin 1024) :
    (iblk m c 3 t : FVec Ideal S256x1024 .f32) (ix2 r k) = B m c (ix3 (ent (rowOf t r)) (pos (rowOf t r)) k) := by
  blk_simp [iblk, idx t]; entry_read; pointwise; blk_ext [idx t]
theorem read4 (t : Fin cfg0.N) (k : Fin 1024) (l : Fin 1024) :
    (iblk m c 4 t : FVec Ideal S1024x1024 .bf16) (ix2 k l) = WO m c (ix3 0 k l) := by
  blk_simp [iblk, idx t]; entry_read; pointwise; blk_ext [idx t]
theorem read7 (t : Fin cfg0.N) (k : Fin 1024) (l : Fin 5632) :
    (iblk m c 7 t : FVec Ideal S1024x5632 .bf16) (ix2 k l) = WGU m c (ix3 0 k l) := by
  blk_simp [iblk, idx t]; entry_read; pointwise; blk_ext [idx t]
theorem read8 (t : Fin cfg0.N) (k : Fin 2816) (l : Fin 1024) :
    (iblk m c 8 t : FVec Ideal S2816x1024 .bf16) (ix2 k l) = WD m c (ix3 0 k l) := by
  blk_simp [iblk, idx t]; entry_read; pointwise; blk_ext [idx t]
theorem read5 (t : Fin cfg0.N) (k : Fin 1024) :
    (iblk m c 5 t : FVec Ideal S1x1024 .f32) (ix2 0 k) = G1 m c (ix2 0 k) := by
  blk_simp [iblk, idx t]; entry_read; pointwise; blk_ext [idx t]
theorem read6 (t : Fin cfg0.N) (k : Fin 1024) :
    (iblk m c 6 t : FVec Ideal S1x1024 .f32) (ix2 0 k) = G2 m c (ix2 0 k) := by
  blk_simp [iblk, idx t]; entry_read; pointwise; blk_ext [idx t]
theorem read9 (t : Fin cfg0.N) (k : Fin 1024) :
    (iblk m c 9 t : FVec Ideal S1x1024 .f32) (ix2 0 k) = G3 m c (ix2 0 k) := by
  blk_simp [iblk, idx t]; entry_read; pointwise; blk_ext [idx t]

/-- The closing half of the layer on the arguments' row `n`. -/
def rowAt (n : Fin 32768) (j : Fin 1024) : EReal :=
  closed (mixed (fun k => X m c (ix3 (ent n) (pos n) k)) (fun k => PA m c (ix3 (ent n) (pos n) k))
      (fun k => SGB m c (ix3 (ent n) (pos n) k)) (fun k => B m c (ix3 (ent n) (pos n) k))
      (fun k l => WO m c (ix3 0 k l)) (fun k => G1 m c (ix2 0 k)))
    (fun k => G2 m c (ix2 0 k)) (fun k l => WGU m c (ix3 0 k l)) (fun k l => WD m c (ix3 0 k l))
    (fun k => G3 m c (ix2 0 k)) j

/-- The result array, row by row. -/
def out : FVec Ideal S32768x1024 .f32 := fun i => rowAt m c (i 0) (i 1)

/-- What the body stores at row `r`, lane `j` of point `t`. -/
theorem point (t : Fin cfg0.N) (r : Fin 256) (j : Fin 1024) :
    k0_pay1 (F := Ideal) (k0_pay2 (iblk m c 1 t) (iblk m c 2 t) (iblk m c 3 t) (iblk m c 4 t) (iblk m c 0 t) (iblk m c 5 t))
      (k0_pay3 (iblk m c 6 t))
      (k0_pay4 (iblk m c 1 t) (iblk m c 2 t) (iblk m c 3 t) (iblk m c 4 t) (iblk m c 0 t) (iblk m c 5 t))
      (iblk m c 7 t) (iblk m c 8 t) (iblk m c 9 t) (ix2 r j) = rowAt m c (rowOf t r) j := by
  rw [Block.body_at]
  simp only [read0 m c, read1 m c, read2 m c, read3 m c, read4 m c, read5 m c, read6 m c, read7 m c, read8 m c,
    read9 m c, rowAt]

theorem out_at (n : Fin 32768) (j : Fin 1024) : out m c (ix2 n j) = rowAt m c n j := rfl

/-- Where row `r`, lane `j` of block `t` lies in the result array. -/
theorem emb10 (t : Fin cfg0.N) (r : Fin 256) (j : Fin 1024) :
    ((cfg0.win 10).blk t).view.emb (ix2 r j : S256x1024.Idx) = (ix2 (rowOf t r) j : S32768x1024.Idx) := by
  blk_ext [idx t]

/-- The result array after the run. -/
theorem final : (dats m 0 c).arrAt 10 (cfgs 0).N = out m c := by
  refine (dats m 0 c).arrAt_eq_of_covers 10 _ (by decide +kernel) fun t hf y => ?_
  obtain ⟨r, j, rfl⟩ : ∃ (r : Fin 256) (j : Fin 1024), y = (ix2 r j : S256x1024.Idx) := ⟨y 0, y 1, eq_ix2 y⟩
  rw [emb10 t r j, out_at]
  blk_simp
  rw [after0_10]
  frame_out
  exact point m c t r j

end Cert.Kernel2Ideal.Arr
end
end
-- ==== Proof.FinishRef.lean ====
module
public import proofs.«01_k».proof.Proof.Gen.Reference2Ideal.Read
public import proofs.«01_k».proof.Proof.FinishRow
public import Idealize.ShloMosaic.Lib.Pointwise
@[expose] public section
set_option maxRecDepth 16384
noncomputable section
namespace Cert.Reference2Ideal.At
open Idealize.ShloMosaic Idealize.ShloMosaic.TcCoe Idealize.SL.Sem
open Cert.Reference2Ideal Cert.Reference2Ideal.Gen Cert.Reference2Ideal.Read Cert.Finish

variable (x pa sgb b : FVec Ideal S2x16384x1024 .f32) (wo : FVec Ideal S1x1024x1024 .f32)
  (wgu : FVec Ideal S1x1024x5632 .f32) (wd : FVec Ideal S1x2816x1024 .f32) (g1 g2 g3 : FVec Ideal S1x1024 .f32)

/-- The reference's row after its mixing half. -/
theorem v18_at (q : Fin 2) (t : Fin 16384) (j : Fin 1024) :
    val_main_v18 (F := Ideal) x pa sgb b wo g1 (ix3 q t j)
      = mixed (fun k => x (ix3 q t k)) (fun k => pa (ix3 q t k)) (fun k => sgb (ix3 q t k)) (fun k => b (ix3 q t k))
          (fun k l => wo (ix3 0 k l)) (fun k => g1 (ix2 0 k)) j := by
  pointwise [val_main_v0, val_main_v1, val_main_v2, val_main_v3, val_main_v4, val_main_v5, val_main_v6, val_main_v7,
    val_main_v8, val_main_v9, val_main_v10, val_main_v11, val_main_v12, val_main_v13, val_main_v14, val_main_v15,
    val_main_v16, val_main_v17, val_main_v18, val_main_cst, val_main_cst_0, val_main_cst_1]
  simp only [mixed, rms, rowMul, zero_add, dLen, eps]

/-- The reference's result at batch entry `q`, row `t`, lane `j`. -/
theorem v55_at (q : Fin 2) (t : Fin 16384) (j : Fin 1024) :
    val_main_v55 (F := Ideal) x pa sgb b wo wgu wd g1 g2 g3 (ix3 q t j)
      = closed (mixed (fun k => x (ix3 q t k)) (fun k => pa (ix3 q t k)) (fun k => sgb (ix3 q t k))
            (fun k => b (ix3 q t k)) (fun k l => wo (ix3 0 k l)) (fun k => g1 (ix2 0 k)))
          (fun k => g2 (ix2 0 k)) (fun k l => wgu (ix3 0 k l)) (fun k l => wd (ix3 0 k l)) (fun k => g3 (ix2 0 k)) j := by
  pointwise [val_main_v19, val_main_v20, val_main_v21, val_main_v22, val_main_v23, val_main_v24, val_main_v25,
    val_main_v26, val_main_v27, val_main_v28, val_main_v29, val_main_v30, val_main_v31, val_main_v32,
    val_main_v33, val_main_v34, val_main_v35, val_main_v36, val_main_v37, val_main_v38, val_main_v39,
    val_main_v40, val_main_v41, val_main_v42, val_main_v43, val_main_v44, val_main_v45, val_main_v46,
    val_main_v47, val_main_v48, val_main_v49, val_main_v50, val_main_v51, val_main_v52, val_main_v53,
    val_main_v54, val_main_v55, val_main_cst_2, val_main_cst_3, val_main_cst_4, val_main_cst_5, val_main_cst_6,
    val_main_cst_7, val_main_call0_v0, val_main_call0_v1, val_main_call0_v2, val_main_call0_v3,
    val_main_call0_v4, val_main_call0_v5, val_main_call0_cst, val_main_call0_cst_0]
  simp only [closed, gated, rms, rowMul, sigm, zero_add, dLen, eps, v18_at]

/-- The reference's result with its batch and row axes merged, as returned. -/
theorem v56_at (n : Fin 32768) (j : Fin 1024) :
    val_main_v56 (F := Ideal) x pa sgb b wo wgu wd g1 g2 g3 (ix2 n j)
      = val_main_v55 (F := Ideal) x pa sgb b wo wgu wd g1 g2 g3
          (ix3 ⟨n.val / 16384, by omega⟩ ⟨n.val % 16384, by omega⟩ j) := by
  pointwise [val_main_v56]

end Cert.Reference2Ideal.At
end
end
-- ==== Proof.FinishClaim.lean ====
module
public import proofs.«01_k».proof.Defs
public import proofs.«01_k».proof.Proof.FinishArray
public import proofs.«01_k».proof.Proof.FinishRef
public import proofs.«01_k».proof.Proof.Gen.Reference2Ideal.Run
public import Idealize.ShloMosaic.Lib.Claim
public import Idealize.ShloMosaic.Adequacy
public import Idealize.ShloMosaic.Init
@[expose] public section
set_option maxRecDepth 16384
noncomputable section
namespace Cert.Proof
open Idealize.ShloMosaic Idealize.SL.Sem

/-- The closing call computes the reference's closing half: equal results on equal arguments. -/
theorem finish_value : Cert.algebraic_Kernel2Ideal_Reference2Ideal := by
  pair_intro
  · run_from Cert.Kernel2Ideal.Value.run_blocks m g
  · run_from Cert.Reference2Ideal.Value.run m' g'
    obtain ⟨h0, h1, h2, h3, h4, h5, h6, h7, h8, h9⟩ := hagree c
    rw [Cert.Kernel2Ideal.Arr.final m c, Cert.Reference2Ideal.Read.val_main_v56_eq, h0, h1, h2, h3, h4, h5, h6, h7, h8, h9]
    funext i
    obtain ⟨n, j, rfl⟩ : ∃ (n : Fin 32768) (j : Fin 1024), i = (ix2 n j : Cert.Kernel2Ideal.S32768x1024.Idx) :=
      ⟨i 0, i 1, eq_ix2 i⟩
    refine (Cert.Reference2Ideal.At.v56_at _ _ _ _ _ _ _ _ _ _ n j).trans ?_
    exact Cert.Reference2Ideal.At.v55_at _ _ _ _ _ _ _ _ _ _ _ _ j

/-- The reference of the closing call runs to its end, its arguments as they were; it declares no semaphore. -/
theorem finish_ref_frame : Cert.quiescent_Reference2Ideal := fun m g _ =>
  (θ_run Cert.Reference2Ideal.defs _ _).mono
    (fun r h => ⟨fun c => (h c).2, sem_eq_zero_of_no_sems (by decide) r.2⟩)
    (Cert.Reference2Ideal.Value.run m g)

end Cert.Proof
end
end
-- ==== Proof.SampleArray.lean ====
module
public import proofs.«01_k».proof.Proof.Gen.Kernel3Ideal.Value
public import proofs.«01_k».proof.Proof.FinishBlock
public import Idealize.ShloMosaic.Lib.Claim
public import Idealize.ShloMosaic.Lib.Pipeline.ValueKit
@[expose] public section
set_option maxRecDepth 16384
noncomputable section
namespace Cert.Kernel3Ideal.Arr
open Idealize.ShloMosaic Idealize.ShloMosaic.TcCoe Idealize.SL.Sem
open Idealize.ShloMosaic.Pipeline (Dat)
open Cert.Kernel3Ideal Cert.Kernel3Ideal.Gen Cert.Finish

variable (m : (ℓ : Loc nD τ sig) → Buf (Elt Ideal) ℓ) (c : Dev nD)

/-- The block index of every window at every point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0] :=
  (by decide +kernel : ∀ t : Fin grid0.N, _)

/-- Batch entry and row of the array's row `n` once batch and row axes are merged. -/
abbrev ent (n : Fin 512) : Fin 32 := ⟨n.val / 16, by omega⟩
abbrev pos (n : Fin 512) : Fin 16 := ⟨n.val % 16, by omega⟩

/-- Row `r` of block `t` is row `256 t + r` of the array. -/
abbrev rowOf (t : Fin cfg0.N) (r : Fin 256) : Fin 512 := ⟨t.val * 256 + r.val, by
  have h : t.val < 2 := t.isLt
  omega⟩

abbrev X : FVec Ideal S32x16x1024 .f32 := m ((c : Thread nD τ).loc main_arg0)
abbrev PA : FVec Ideal S32x16x1024 .f32 := m ((c : Thread nD τ).loc main_arg1)
abbrev SGB : FVec Ideal S32x16x1024 .f32 := m ((c : Thread nD τ).loc main_arg2)
abbrev B : FVec Ideal S32x16x1024 .f32 := m ((c : Thread nD τ).loc main_arg3)
abbrev WO : FVec Ideal S1x1024x1024 .f32 := m ((c : Thread nD τ).loc main_arg4)
abbrev WGU : FVec Ideal S1x1024x5632 .f32 := m ((c : Thread nD τ).loc main_arg5)
abbrev WD : FVec Ideal S1x2816x1024 .f32 := m ((c : Thread nD τ).loc main_arg6)
abbrev G1 : FVec Ideal S1x1024 .f32 := m ((c : Thread nD τ).loc main_arg7)
abbrev G2 : FVec Ideal S1x1024 .f32 := m ((c : Thread nD τ).loc main_arg8)
abbrev G3 : FVec Ideal S1x1024 .f32 := m ((c : Thread nD τ).loc main_arg9)

/-! The blocks the body reads at point `t`, as the arguments' entries. -/

theorem read0 (t : Fin cfg0.N) (r : Fin 256) (k : Fin 1024) :
    (iblk m c 0 t : FVec Ideal S256x1024 .f32) (ix2 r k) = X m c (ix3 (ent (rowOf t r)) (pos (rowOf t r)) k) := by
  blk_simp [iblk, idx t]; entry_read; pointwise; blk_ext [idx t]
theorem read1 (t : Fin cfg0.N) (r : Fin 256) (k : Fin 1024) :
    (iblk m c 1 t : FVec Ideal S256x1024 .f32) (ix2 r k) = PA m c (ix3 (ent (rowOf t r)) (pos (rowOf t r)) k) := by
  blk_simp [iblk, idx t]; entry_read; pointwise; blk_ext [idx t]
theorem read2 (t : Fin cfg0.N) (r : Fin 256) (k : Fin 1024) :
    (iblk m c 2 t : FVec Ideal S256x1024 .f32) (ix2 r k) = SGB m c (ix3 (ent (rowOf t r)) (pos (rowOf t r)) k) := by
  blk_simp [iblk, idx t]; entry_read; pointwise; blk_ext [idx t]
theorem read3 (t : Fin cfg0.N) (r : Fin 256) (k : Fin 1024) :
    (iblk m c 3 t : FVec Ideal S256x1024 .f32) (ix2 r k) = B m c (ix3 (ent (rowOf t r)) (pos (rowOf t r)) k) := by
  blk_simp [iblk, idx t]; entry_read; pointwise; blk_ext [idx t]
theorem read4 (t : Fin cfg0.N) (k : Fin 1024) (l : Fin 1024) :
    (iblk m c 4 t : FVec Ideal S1024x1024 .bf16) (ix2 k l) = WO m c (ix3 0 k l) := by
  blk_simp [iblk, idx t]; entry_read; pointwise; blk_ext [idx t]
theorem read7 (t : Fin cfg0.N) (k : Fin 1024) (l : Fin 5632) :
    (iblk m c 7 t : FVec Ideal S1024x5632 .bf16) (ix2 k l) = WGU m c (ix3 0 k l) := by
  blk_simp [iblk, idx t]; entry_read; pointwise; blk_ext [idx t]
theorem read8 (t : Fin cfg0.N) (k : Fin 2816) (l : Fin 1024) :
    (iblk m c 8 t : FVec Ideal S2816x1024 .bf16) (ix2 k l) = WD m c (ix3 0 k l) := by
  blk_simp [iblk, idx t]; entry_read; pointwise; blk_ext [idx t]
theorem read5 (t : Fin cfg0.N) (k : Fin 1024) :
    (iblk m c 5 t : FVec Ideal S1x1024 .f32) (ix2 0 k) = G1 m c (ix2 0 k) := by
  blk_simp [iblk, idx t]; entry_read; pointwise; blk_ext [idx t]
theorem read6 (t : Fin cfg0.N) (k : Fin 1024) :
    (iblk m c 6 t : FVec Ideal S1x1024 .f32) (ix2 0 k) = G2 m c (ix2 0 k) := by
  blk_simp [iblk, idx t]; entry_read; pointwise; blk_ext [idx t]
theorem read9 (t : Fin cfg0.N) (k : Fin 1024) :
    (iblk m c 9 t : FVec Ideal S1x1024 .f32) (ix2 0 k) = G3 m c (ix2 0 k) := by
  blk_simp [iblk, idx t]; entry_read; pointwise; blk_ext [idx t]

/-- The closing half of the layer on the arguments' row `n`. -/
def rowAt (n : Fin 512) (j : Fin 1024) : EReal :=
  closed (mixed (fun k => X m c (ix3 (ent n) (pos n) k)) (fun k => PA m c (ix3 (ent n) (pos n) k))
      (fun k => SGB m c (ix3 (ent n) (pos n) k)) (fun k => B m c (ix3 (ent n) (pos n) k))
      (fun k l => WO m c (ix3 0 k l)) (fun k => G1 m c (ix2 0 k)))
    (fun k => G2 m c (ix2 0 k)) (fun k l => WGU m c (ix3 0 k l)) (fun k l => WD m c (ix3 0 k l))
    (fun k => G3 m c (ix2 0 k)) j

/-- The result array, row by row. -/
def out : FVec Ideal S512x1024 .f32 := fun i => rowAt m c (i 0) (i 1)

/-- What the body stores at row `r`, lane `j` of point `t`. -/
theorem point (t : Fin cfg0.N) (r : Fin 256) (j : Fin 1024) :
    k0_pay1 (F := Ideal) (k0_pay2 (iblk m c 1 t) (iblk m c 2 t) (iblk m c 3 t) (iblk m c 4 t) (iblk m c 0 t) (iblk m c 5 t))
      (k0_pay3 (iblk m c 6 t))
      (k0_pay4 (iblk m c 1 t) (iblk m c 2 t) (iblk m c 3 t) (iblk m c 4 t) (iblk m c 0 t) (iblk m c 5 t))
      (iblk m c 7 t) (iblk m c 8 t) (iblk m c 9 t) (ix2 r j) = rowAt m c (rowOf t r) j := by
  refine (Cert.Kernel2Ideal.Block.body_at _ _ _ _ _ _ _ _ _ _ r j).trans ?_
  simp only [read0 m c, read1 m c, read2 m c, read3 m c, read4 m c, read5 m c, read6 m c, read7 m c, read8 m c,
    read9 m c, rowAt]

theorem out_at (n : Fin 512) (j : Fin 1024) : out m c (ix2 n j) = rowAt m c n j := rfl

/-- Where row `r`, lane `j` of block `t` lies in the result array. -/
theorem emb10 (t : Fin cfg0.N) (r : Fin 256) (j : Fin 1024) :
    ((cfg0.win 10).blk t).view.emb (ix2 r j : S256x1024.Idx) = (ix2 (rowOf t r) j : S512x1024.Idx) := by
  blk_ext [idx t]

/-- The result array after the run. -/
theorem final : (dats m 0 c).arrAt 10 (cfgs 0).N = out m c := by
  refine (dats m 0 c).arrAt_eq_of_covers 10 _ (by decide +kernel) fun t hf y => ?_
  obtain ⟨r, j, rfl⟩ : ∃ (r : Fin 256) (j : Fin 1024), y = (ix2 r j : S256x1024.Idx) := ⟨y 0, y 1, eq_ix2 y⟩
  rw [emb10 t r j, out_at]
  blk_simp
  rw [after0_10]
  frame_out
  exact point m c t r j

end Cert.Kernel3Ideal.Arr
end
end
-- ==== Proof.SampleRef.lean ====
module
public import proofs.«01_k».proof.Proof.Gen.Reference3Ideal.Read
public import proofs.«01_k».proof.Proof.FinishRow
public import Idealize.ShloMosaic.Lib.Pointwise
@[expose] public section
set_option maxRecDepth 16384
noncomputable section
namespace Cert.Reference3Ideal.At
open Idealize.ShloMosaic Idealize.ShloMosaic.TcCoe Idealize.SL.Sem
open Cert.Reference3Ideal Cert.Reference3Ideal.Gen Cert.Reference3Ideal.Read Cert.Finish

variable (x pa sgb b : FVec Ideal S32x16x1024 .f32) (wo : FVec Ideal S1x1024x1024 .f32)
  (wgu : FVec Ideal S1x1024x5632 .f32) (wd : FVec Ideal S1x2816x1024 .f32) (g1 g2 g3 : FVec Ideal S1x1024 .f32)

/-- The reference's row after its mixing half. -/
theorem v18_at (q : Fin 32) (t : Fin 16) (j : Fin 1024) :
    val_main_v18 (F := Ideal) x pa sgb b wo g1 (ix3 q t j)
      = mixed (fun k => x (ix3 q t k)) (fun k => pa (ix3 q t k)) (fun k => sgb (ix3 q t k)) (fun k => b (ix3 q t k))
          (fun k l => wo (ix3 0 k l)) (fun k => g1 (ix2 0 k)) j := by
  pointwise [val_main_v0, val_main_v1, val_main_v2, val_main_v3, val_main_v4, val_main_v5, val_main_v6, val_main_v7,
    val_main_v8, val_main_v9, val_main_v10, val_main_v11, val_main_v12, val_main_v13, val_main_v14, val_main_v15,
    val_main_v16, val_main_v17, val_main_v18, val_main_cst, val_main_cst_0, val_main_cst_1]
  simp only [mixed, rms, rowMul, zero_add, dLen, eps]

/-- The reference's result at batch entry `q`, row `t`, lane `j`. -/
theorem v55_at (q : Fin 32) (t : Fin 16) (j : Fin 1024) :
    val_main_v55 (F := Ideal) x pa sgb b wo wgu wd g1 g2 g3 (ix3 q t j)
      = closed (mixed (fun k => x (ix3 q t k)) (fun k => pa (ix3 q t k)) (fun k => sgb (ix3 q t k))
            (fun k => b (ix3 q t k)) (fun k l => wo (ix3 0 k l)) (fun k => g1 (ix2 0 k)))
          (fun k => g2 (ix2 0 k)) (fun k l => wgu (ix3 0 k l)) (fun k l => wd (ix3 0 k l)) (fun k => g3 (ix2 0 k)) j := by
  pointwise [val_main_v19, val_main_v20, val_main_v21, val_main_v22, val_main_v23, val_main_v24, val_main_v25,
    val_main_v26, val_main_v27, val_main_v28, val_main_v29, val_main_v30, val_main_v31, val_main_v32,
    val_main_v33, val_main_v34, val_main_v35, val_main_v36, val_main_v37, val_main_v38, val_main_v39,
    val_main_v40, val_main_v41, val_main_v42, val_main_v43, val_main_v44, val_main_v45, val_main_v46,
    val_main_v47, val_main_v48, val_main_v49, val_main_v50, val_main_v51, val_main_v52, val_main_v53,
    val_main_v54, val_main_v55, val_main_cst_2, val_main_cst_3, val_main_cst_4, val_main_cst_5, val_main_cst_6,
    val_main_cst_7, val_main_call0_v0, val_main_call0_v1, val_main_call0_v2, val_main_call0_v3,
    val_main_call0_v4, val_main_call0_v5, val_main_call0_cst, val_main_call0_cst_0]
  simp only [closed, gated, rms, rowMul, sigm, zero_add, dLen, eps, v18_at]

/-- The reference's result with its batch and row axes merged, as returned. -/
theorem v56_at (n : Fin 512) (j : Fin 1024) :
    val_main_v56 (F := Ideal) x pa sgb b wo wgu wd g1 g2 g3 (ix2 n j)
      = val_main_v55 (F := Ideal) x pa sgb b wo wgu wd g1 g2 g3
          (ix3 ⟨n.val / 16, by omega⟩ ⟨n.val % 16, by omega⟩ j) := by
  pointwise [val_main_v56]

end Cert.Reference3Ideal.At
end
end
-- ==== Proof.SampleClaim.lean ====
module
public import proofs.«01_k».proof.Defs
public import proofs.«01_k».proof.Proof.SampleArray
public import proofs.«01_k».proof.Proof.SampleRef
public import proofs.«01_k».proof.Proof.Gen.Reference3Ideal.Run
public import Idealize.ShloMosaic.Lib.Claim
public import Idealize.ShloMosaic.Adequacy
public import Idealize.ShloMosaic.Init
@[expose] public section
set_option maxRecDepth 16384
noncomputable section
namespace Cert.Proof
open Idealize.ShloMosaic Idealize.SL.Sem

/-- The closing call on the sample batch computes the reference's closing half: equal results on equal arguments. -/
theorem sample_value : Cert.algebraic_Kernel3Ideal_Reference3Ideal := by
  pair_intro
  · run_from Cert.Kernel3Ideal.Value.run_blocks m g
  · run_from Cert.Reference3Ideal.Value.run m' g'
    obtain ⟨h0, h1, h2, h3, h4, h5, h6, h7, h8, h9⟩ := hagree c
    rw [Cert.Kernel3Ideal.Arr.final m c, Cert.Reference3Ideal.Read.val_main_v56_eq, h0, h1, h2, h3, h4, h5, h6, h7, h8, h9]
    funext i
    obtain ⟨n, j, rfl⟩ : ∃ (n : Fin 512) (j : Fin 1024), i = (ix2 n j : Cert.Kernel3Ideal.S512x1024.Idx) :=
      ⟨i 0, i 1, eq_ix2 i⟩
    refine (Cert.Reference3Ideal.At.v56_at _ _ _ _ _ _ _ _ _ _ n j).trans ?_
    exact Cert.Reference3Ideal.At.v55_at _ _ _ _ _ _ _ _ _ _ _ _ j

/-- The reference of the closing call on the sample batch runs to its end, its arguments as they were; it declares no semaphore. -/
theorem sample_ref_frame : Cert.quiescent_Reference3Ideal := fun m g _ =>
  (θ_run Cert.Reference3Ideal.defs _ _).mono
    (fun r h => ⟨fun c => (h c).2, sem_eq_zero_of_no_sems (by decide) r.2⟩)
    (Cert.Reference3Ideal.Value.run m g)

end Cert.Proof
end
end
-- ==== Proof.ProjRow.lean ====
module
public import proofs.«01_k».proof.Proof.FinishRow
public import Idealize.ShloMosaic.Lib.Pointwise
@[expose] public section
set_option maxRecDepth 16384
noncomputable section
namespace Cert.Proj
open Idealize.ShloMosaic Cert.Finish

/-! The projection half of the layer on one batch entry of 16 rows at positions 4096, 4097, …: `X` its rows, `SP` the 15
    rows of pooling history before them, `G` the scale of the normalisation, `W` the input projection, `WP` and `PS` the
    pooling weights and scales. -/

variable (X : Fin 16 → Fin 1024 → EReal) (G : Fin 1024 → EReal) (W : Fin 1024 → Fin 4680 → EReal)
  (SP : Fin 15 → Fin 512 → EReal) (WP : Fin 4 → Fin 128 → Fin 256 → EReal) (PS : Fin 1024 → EReal)

/-- Column `c` of the projected row `t`. -/
def col (t : Fin 16) (c : Fin 4680) : EReal := rowMul (rms (X t) G) W c

/-- The number the position of row `t` is, 4096 + t. -/
abbrev posn (t : ℕ) : BitVec 32 := IntOp.addi 4096#32 (BitVec.ofNat 32 t)

/-- The angle of pair `e` at row `t`, the pairs' number being the number of the pattern `d`: position · 500000^(-e / pairs). -/
def angle (d : BitVec 32) (t e : ℕ) : EReal :=
  FloatOps.sitofp (F := Ideal) .f32 (posn t) *
    Ideal.pow (Ideal.ofBits .f32 1223959552#32)
      (Ideal.div (-FloatOps.sitofp (F := Ideal) .f32 (BitVec.ofNat 32 e)) (Ideal.ofBits .f32 d))

/-- Lanes `e` and `half + e` turned by the angle `a e` for `e < half`; the lanes from `2 half` on as they are. -/
def turn (half : ℕ) (hh : half ≤ 16) (z : Fin 128 → EReal) (a : ℕ → EReal) (l : Fin 128) : EReal :=
  if h : l.val < half then z ⟨l.val, by omega⟩ * Ideal.cos (a l.val) - z ⟨half + l.val, by omega⟩ * Ideal.sin (a l.val)
  else if h' : l.val - half < half then
    z ⟨half + (l.val - half), by omega⟩ * Ideal.cos (a (l.val - half)) + z ⟨l.val - half, by omega⟩ * Ideal.sin (a (l.val - half))
  else z ⟨half + half + (l.val - half - half), by omega⟩

/-- The turned lanes below 64 read only lanes below 64. -/
theorem turn_congr (z z' : Fin 128 → EReal) (a : ℕ → EReal) (l : Fin 128) (hl : l.val < 64)
    (h : ∀ i : Fin 128, i.val < 64 → z i = z' i) : turn 8 (by omega) z a l = turn 8 (by omega) z' a l := by
  unfold turn
  by_cases h1 : l.val < 8
  · rw [dif_pos h1, dif_pos h1, h _ (by show l.val < 64; omega), h _ (by show 8 + l.val < 64; omega)]
  · rw [dif_neg h1, dif_neg h1]
    by_cases h2 : l.val - 8 < 8
    · rw [dif_pos h2, dif_pos h2, h _ (by show 8 + (l.val - 8) < 64; omega), h _ (by show l.val - 8 < 64; omega)]
    · rw [dif_neg h2, dif_neg h2, h _ (by show 8 + 8 + (l.val - 8 - 8) < 64; omega)]

/-- The cosine table: the angles' cosines over the first `half` lanes, again over the next `half`, then ones. -/
def tabC (half : ℕ) (a : ℕ → EReal) (l : ℕ) : EReal :=
  if _h : l < half then Ideal.cos (a l) else if _h : l - half < half then Ideal.cos (a (l - half)) else 1

/-- The sine table: the angles' sines negated over the first `half` lanes, as they are over the next, then zeros. -/
def tabS (half : ℕ) (a : ℕ → EReal) (l : ℕ) : EReal :=
  if _h : l < half then -Ideal.sin (a l) else if _h : l - half < half then Ideal.sin (a (l - half)) else 0

/-- Turning by tables: a lane times its cosine plus its partner times its signed sine. -/
theorem turn_of_tables (half : ℕ) (hh : half ≤ 16) (z : Fin 128 → EReal) (a : ℕ → EReal) (l : Fin 128) (u : EReal)
    (hu : ∀ h : l.val < half, u = z ⟨half + l.val, by omega⟩)
    (hd : ∀ (h : ¬l.val < half), l.val - half < half → u = z ⟨l.val - half, by omega⟩) :
    z l * tabC half a l.val + u * tabS half a l.val = turn half hh z a l := by
  unfold tabC tabS turn
  by_cases h1 : l.val < half
  · simp only [dif_pos h1]
    rw [mul_neg, ← sub_eq_add_neg, hu h1]
  · simp only [dif_neg h1]
    by_cases h2 : l.val - half < half
    · simp only [dif_pos h2]
      rw [hd h1 h2]
      congr 3
      exact Fin.ext (show l.val = half + (l.val - half) by omega)
    · simp only [dif_neg h2]
      rw [mul_one, mul_zero, add_zero]
      congr 1
      exact Fin.ext (show l.val = half + half + (l.val - half - half) by omega)

/-- A choice by a decided word is the plain choice. -/
theorem select_decide (p : Prop) [Decidable p] (x y : EReal) :
    Scalar.select (BitVec.ofBool (decide p)) x y = if p then x else y := by
  by_cases h : p <;> simp [Scalar.select, h]

/-- The kernel's word for "this lane is below 16". -/
theorem word16 : ∀ l : Fin 128, IntOp.cmpi .slt (IntOp.andi (BitVec.ofNat 32 l.val) 127#32) 16#32
    = BitVec.ofBool (decide (l.val < 16)) := by decide +kernel

/-- The kernel's word for "this lane's place in its 64 lanes is below 8". -/
theorem word8 : ∀ l : Fin 128, IntOp.cmpi .slt (IntOp.andi (BitVec.ofNat 32 l.val) 63#32) 8#32
    = BitVec.ofBool (decide (l.val % 64 < 8)) := by decide +kernel

/-- The kernel's word for "this lane is below 64". -/
theorem word64 : ∀ l : Fin 128, IntOp.cmpi .slt (BitVec.ofNat 32 l.val) 64#32
    = BitVec.ofBool (decide (l.val < 64)) := by decide +kernel

/-- The kernel's turn of a block of 128 lanes in pairs 16 apart, `c` and `s` the tables' entries at lane `l`. -/
abbrev spin (z : Fin 128 → EReal) (c s : EReal) (l : Fin 128) : EReal :=
  z l * c + Scalar.select (IntOp.cmpi .slt (IntOp.andi (BitVec.ofNat 32 l.val) 127#32) 16#32)
    (z ⟨(l.val + 128 - 112) % 128, by omega⟩) (z ⟨(l.val + 128 - 16) % 128, by omega⟩) * s

theorem spin_eq (z : Fin 128 → EReal) (a : ℕ → EReal) (l : Fin 128) :
    spin z (tabC 16 a l.val) (tabS 16 a l.val) l = turn 16 (by omega) z a l := by
  refine turn_of_tables 16 (by omega) z a l _ (fun h => ?_) (fun h h' => ?_)
  · rw [word16, select_decide, if_pos h]
    congr 1
    exact Fin.ext (show (l.val + 128 - 112) % 128 = 16 + l.val by omega)
  · rw [word16, select_decide, if_neg h]
    congr 1
    exact Fin.ext (show (l.val + 128 - 16) % 128 = l.val - 16 by omega)

/-- The same in pairs 8 apart, the partner chosen within 64 lanes. -/
abbrev spin8 (z : Fin 128 → EReal) (c s : EReal) (l : Fin 128) : EReal :=
  z l * c + Scalar.select (IntOp.cmpi .slt (IntOp.andi (BitVec.ofNat 32 l.val) 63#32) 8#32)
    (z ⟨(l.val + 128 - 120) % 128, by omega⟩) (z ⟨(l.val + 128 - 8) % 128, by omega⟩) * s

theorem spin8_eq (z : Fin 128 → EReal) (a : ℕ → EReal) (l : Fin 128) (hl : l.val < 64) :
    spin8 z (tabC 8 a (l.val % 64)) (tabS 8 a (l.val % 64)) l = turn 8 (by omega) z a l := by
  have e : l.val % 64 = l.val := Nat.mod_eq_of_lt hl
  rw [e]
  refine turn_of_tables 8 (by omega) z a l _ (fun h => ?_) (fun h h' => ?_)
  · rw [word8, select_decide, if_pos (by omega)]
    congr 1
    exact Fin.ext (show (l.val + 128 - 120) % 128 = 8 + l.val by omega)
  · rw [word8, select_decide, if_neg (by omega)]
    congr 1
    exact Fin.ext (show (l.val + 128 - 8) % 128 = l.val - 8 by omega)

/-- Head `h` of the query row, turned and scaled. -/
def qOut (h : Fin 8) (t : Fin 16) (l : Fin 128) : EReal :=
  turn 16 (by omega) (fun i => col X G W t ⟨512 + (h.val * 128 + i.val), by omega⟩) (angle 1098907648#32 t.val) l
    * Ideal.ofBits .f32 1040356334#32

/-- The key row: two heads of 128 lanes, each turned. -/
def kOut (t : Fin 16) (c : Fin 256) : EReal :=
  turn 16 (by omega) (fun i => col X G W t ⟨1536 + (c.val / 128 * 128 + i.val), by omega⟩) (angle 1098907648#32 t.val)
    ⟨c.val % 128, by omega⟩

/-- The indexer's key turned (64 lanes), its head weights scaled (8 lanes), zeros. -/
def kiwOut (t : Fin 16) (l : Fin 128) : EReal :=
  if h : l.val < 64 then
    turn 8 (by omega) (fun i => col X G W t ⟨2560 + i.val, by omega⟩) (angle 1090519040#32 t.val) l
  else if h' : l.val - 64 < 8 then col X G W t ⟨2624 + (l.val - 64), by omega⟩ * Ideal.ofBits .f32 1026884851#32
  else 0

/-- The pooled quantity's row `s` of 31: the history's 15 rows, then the 16 projected rows' first 512 columns. -/
def ext (s : ℕ) (c : Fin 512) : EReal :=
  if h : s < 15 then SP ⟨s, h⟩ c else if h' : s - 15 < 16 then col X G W ⟨s - 15, h'⟩ ⟨c.val, by omega⟩ else 0

theorem ext_eq (s : ℕ) (hs : s < 31) (c : Fin 512) : ext X G W SP s c
    = if h : s < 15 then SP ⟨s, h⟩ c else col X G W ⟨s - 15, by omega⟩ ⟨c.val, by omega⟩ := by
  unfold ext
  by_cases h : s < 15
  · rw [dif_pos h, dif_pos h]
  · rw [dif_neg h, dif_neg h, dif_pos (by omega)]

/-- The last of the rows a window ending at `t` covers is row `t`. -/
theorem ext_self (t : Fin 16) (c : Fin 512) : ext X G W SP (15 + t.val) c = col X G W t ⟨c.val, by omega⟩ := by
  rw [ext_eq X G W SP _ (by omega), dif_neg (by omega)]
  congr 1
  exact Fin.ext (show 15 + t.val - 15 = t.val by omega)

/-- How many positions a window of `w` rows ending at row `t` covers. -/
def cover (w : BitVec 32) (t : ℕ) : EReal :=
  FloatOps.sitofp (F := Ideal) .f32 (IntOp.minsi (IntOp.addi (posn t) 1#32) w)

/-- The mean of the `w` rows ending at row `t`, less row `t`, at lane `k` of the 128 lanes from `o` on. -/
def pooled (w : ℕ) (o : ℕ) (ho : o + 128 ≤ 512) (t : Fin 16) (k : Fin 128) : EReal :=
  Ideal.div (∑ i : Fin w, ext X G W SP (15 - i.val + t.val) ⟨o + k.val, by omega⟩) (cover (BitVec.ofNat 32 w) t.val)
    - col X G W t ⟨o + k.val, by omega⟩

/-- The four groups' pooled rows times their weights, side by side. -/
def mix (t : Fin 16) (j : Fin 1024) : EReal :=
  if h : j.val < 256 then rowMul (pooled X G W SP 2 0 (by omega) t) (WP 0) ⟨j.val, h⟩
  else if h' : j.val - 256 < 256 then rowMul (pooled X G W SP 4 128 (by omega) t) (WP 1) ⟨j.val - 256, h'⟩
  else if h'' : j.val - 256 - 256 < 256 then
    rowMul (pooled X G W SP 8 256 (by omega) t) (WP 2) ⟨j.val - 256 - 256, h''⟩
  else rowMul (pooled X G W SP 16 384 (by omega) t) (WP 3) ⟨j.val - 256 - 256 - 256, by omega⟩

/-- The pooling branch, scaled and gated. -/
def paOut (t : Fin 16) (j : Fin 1024) : EReal :=
  sigm (col X G W t ⟨2632 + j.val, by omega⟩) * (mix X G W SP WP t j * PS j)

/-- The attention branch's gate. -/
def sgbOut (t : Fin 16) (j : Fin 1024) : EReal := sigm (col X G W t ⟨3656 + j.val, by omega⟩)

/-! The kernel's input projection has 56 zero columns put in after column 2631. -/

/-- The widened projection. -/
def wide (k : Fin 1024) (l : Fin 4736) : EReal :=
  if h : l.val < 2632 then W k ⟨l.val, by omega⟩
  else if _h' : l.val - 2632 < 56 then 0 else W k ⟨2632 + (l.val - 2632 - 56), by omega⟩

/-- Column `l` of the row projected by the widened projection. -/
def wcol (t : Fin 16) (l : Fin 4736) : EReal := rowMul (rms (X t) G) (wide W) l

theorem wcol_low (t : Fin 16) (l : Fin 4736) (c : Fin 4680) (h : l.val < 2632) (hc : c.val = l.val) :
    wcol X G W t l = col X G W t c := by
  unfold wcol col rowMul
  refine Finset.sum_congr rfl fun k _ => ?_
  unfold wide
  rw [dif_pos h]
  congr 2
  exact Fin.ext hc.symm

theorem wcol_high (t : Fin 16) (l : Fin 4736) (c : Fin 4680) (h : 2688 ≤ l.val) (hc : c.val + 56 = l.val) :
    wcol X G W t l = col X G W t c := by
  unfold wcol col rowMul
  refine Finset.sum_congr rfl fun k _ => ?_
  unfold wide
  rw [dif_neg (by omega), dif_neg (by omega)]
  congr 2
  exact Fin.ext (show 2632 + (l.val - 2632 - 56) = c.val by omega)

theorem wcol_zero (t : Fin 16) (l : Fin 4736) (h : 2632 ≤ l.val) (h' : l.val < 2688) : wcol X G W t l = 0 := by
  unfold wcol rowMul
  refine Finset.sum_eq_zero fun k _ => ?_
  unfold wide
  rw [dif_neg (by omega), dif_pos (by omega), mul_zero]

end Cert.Proj
end
end
-- ==== Proof.ProjHost.lean ====
module
public import proofs.«01_k».proof.Proof.Gen.KernelIdeal.Frame
public import proofs.«01_k».proof.Proof.ProjRow
public import Idealize.ShloMosaic.Lib.Claim
public import Idealize.ShloMosaic.Lib.StableHlo.RunRead
public import Idealize.ShloMosaic.Lib.Pointwise
@[expose] public section
set_option maxRecDepth 16384
noncomputable section
namespace Cert.KernelIdeal.Host
open Idealize.ShloMosaic Idealize.ShloMosaic.TcCoe Idealize.SL.Sem
open Cert.KernelIdeal Cert.KernelIdeal.Gen Cert.Finish Cert.Proj

variable (m : (ℓ : Loc nD τ sig) → Buf (Elt Ideal) ℓ) (c : Dev nD)

abbrev WA : FVec Ideal S1x1024x4680 .f32 := m ((c : Thread nD τ).loc main_arg2)

/-- The widened projection the kernel is handed. -/
theorem e8 (k : Fin 1024) (l : Fin 4736) : (V m c main_v8 : FVec Ideal S1024x4736 .bf16) (ix2 k l)
    = wide (fun k l => WA m c (ix3 0 k l)) k l := by
  unfold V
  after_reads_simp
  pointwise
  after_reads_simp
  pointwise
  rfl

/-- The pooling history the kernel is handed: a row of zeros, then the 15 rows. -/
theorem e2 (b : Fin 32) (r : Fin 16) (k : Fin 512) : (V m c main_v2 : FVec Ideal S32x16x512 .f32) (ix3 b r k)
    = if h : r.val < 1 then (0 : EReal)
      else (m ((c : Thread nD τ).loc main_arg1) : FVec Ideal S1x32x15x512 .f32) (ix4 0 b ⟨r.val - 1, by omega⟩ k) := by
  unfold V
  after_reads_simp
  pointwise

/-! The tables of cosines and sines. -/

theorem e39 (r : Fin 16) (l : Fin 128) : (V m c main_v39 : FVec Ideal S16x128 .f32) (ix2 r l)
    = tabC 16 (angle 1098907648#32 r.val) l.val := by
  unfold V
  after_reads_simp
  pointwise
  after_reads_simp
  pointwise
  simp only [tabC, angle]
theorem e42 (r : Fin 16) (l : Fin 128) : (V m c main_v42 : FVec Ideal S16x128 .f32) (ix2 r l)
    = tabS 16 (angle 1098907648#32 r.val) l.val := by
  unfold V
  after_reads_simp
  pointwise
  after_reads_simp
  pointwise
  simp only [tabS, angle]
theorem e64 (r : Fin 16) (l : Fin 128) : (V m c main_v64 : FVec Ideal S16x128 .f32) (ix2 r l)
    = tabC 8 (angle 1090519040#32 r.val) (l.val % 64) := by
  unfold V
  after_reads_simp
  pointwise
  after_reads_simp
  pointwise
  simp only [tabC, angle]
theorem e67 (r : Fin 16) (l : Fin 128) : (V m c main_v67 : FVec Ideal S16x128 .f32) (ix2 r l)
    = tabS 8 (angle 1090519040#32 r.val) (l.val % 64) := by
  unfold V
  after_reads_simp
  pointwise
  after_reads_simp
  pointwise
  simp only [tabS, angle]
end Cert.KernelIdeal.Host
end
end
-- ==== Proof.ProjBlock.lean ====
module
public import proofs.«01_k».proof.Proof.Gen.KernelIdeal.Skeleton
public import proofs.«01_k».proof.Proof.ProjRow
public import Idealize.ShloMosaic.Lib.Pointwise
@[expose] public section
set_option maxRecDepth 16384
noncomputable section
namespace Cert.KernelIdeal.Block
open Idealize.ShloMosaic Idealize.ShloMosaic.TcCoe Idealize.SL.Sem
open Cert.KernelIdeal Cert.KernelIdeal.Gen Cert.Finish Cert.Proj

/-- The projected block at row `r`, column `c`. -/
theorem pay2_at (x : FVec Ideal S1x16x1024 .f32) (g : FVec Ideal S1x1024 .f32) (w : FVec Ideal S1024x4736 .bf16)
    (r : Fin 16) (c : Fin 4736) :
    k0_pay2 (F := Ideal) x g w (ix2 r c)
      = rowMul (rms (fun k => x (ix3 0 r k)) (fun k => g (ix2 0 k))) (fun k l => w (ix2 k l)) c := by
  pointwise [k0_pay2]
  simp only [rms, rowMul, zero_add, dLen, eps]

/-! What is stored for a head of the query: its 128 columns turned and scaled. -/

theorem pay12_at (x : FVec Ideal S1x16x1024 .f32) (g : FVec Ideal S1x1024 .f32) (w : FVec Ideal S1024x4736 .bf16)
    (c s : FVec Ideal S16x128 .f32) (r : Fin 16) (l : Fin 128) :
    k0_pay12 (F := Ideal) c s (k0_pay7 x g w) (k0_pay8 x g w) (k0_pay9 x g w) k0_pay10 k0_pay11 (ix4 0 0 r l)
      = spin (fun i => k0_pay2 (F := Ideal) x g w (ix2 r ⟨512 + i.val, by omega⟩)) (c (ix2 r l)) (s (ix2 r l)) l
        * Ideal.ofBits .f32 1040356334#32 := by
  pointwise [k0_pay12, k0_pay7, k0_pay8, k0_pay9, k0_pay10, k0_pay11]

variable (p : FVec Ideal S16x4736 .f32) (c s : FVec Ideal S16x128 .f32)

theorem pay13_at (r : Fin 16) (l : Fin 128) :
    k0_pay13 (F := Ideal) p c s (ix4 0 0 r l)
      = spin (fun i => p (ix2 r ⟨640 + i.val, by omega⟩)) (c (ix2 r l)) (s (ix2 r l)) l * Ideal.ofBits .f32 1040356334#32 := by
  pointwise [k0_pay13]
theorem pay17_at (r : Fin 16) (l : Fin 128) :
    k0_pay17 (F := Ideal) (k0_pay15 p c) (k0_pay16 p s) (ix4 0 0 r l)
      = spin (fun i => p (ix2 r ⟨768 + i.val, by omega⟩)) (c (ix2 r l)) (s (ix2 r l)) l * Ideal.ofBits .f32 1040356334#32 := by
  pointwise [k0_pay17, k0_pay15, k0_pay16, k0_pay14]
theorem pay18_at (r : Fin 16) (l : Fin 128) :
    k0_pay18 (F := Ideal) p c s (ix4 0 0 r l)
      = spin (fun i => p (ix2 r ⟨896 + i.val, by omega⟩)) (c (ix2 r l)) (s (ix2 r l)) l * Ideal.ofBits .f32 1040356334#32 := by
  pointwise [k0_pay18]
theorem pay20_at (r : Fin 16) (l : Fin 128) :
    k0_pay20 (F := Ideal) (k0_pay19 p c s) (ix4 0 0 r l)
      = spin (fun i => p (ix2 r ⟨1024 + i.val, by omega⟩)) (c (ix2 r l)) (s (ix2 r l)) l * Ideal.ofBits .f32 1040356334#32 := by
  pointwise [k0_pay20, k0_pay19]
theorem pay21_at (r : Fin 16) (l : Fin 128) :
    k0_pay21 (F := Ideal) p c s (ix4 0 0 r l)
      = spin (fun i => p (ix2 r ⟨1152 + i.val, by omega⟩)) (c (ix2 r l)) (s (ix2 r l)) l * Ideal.ofBits .f32 1040356334#32 := by
  pointwise [k0_pay21]
theorem pay23_at (r : Fin 16) (l : Fin 128) :
    k0_pay23 (F := Ideal) (k0_pay22 p c s) (ix4 0 0 r l)
      = spin (fun i => p (ix2 r ⟨1280 + i.val, by omega⟩)) (c (ix2 r l)) (s (ix2 r l)) l * Ideal.ofBits .f32 1040356334#32 := by
  pointwise [k0_pay23, k0_pay22]
theorem pay24_at (r : Fin 16) (l : Fin 128) :
    k0_pay24 (F := Ideal) p c s (ix4 0 0 r l)
      = spin (fun i => p (ix2 r ⟨1408 + i.val, by omega⟩)) (c (ix2 r l)) (s (ix2 r l)) l * Ideal.ofBits .f32 1040356334#32 := by
  pointwise [k0_pay24]

/-! What is stored for a head of the key. -/

theorem pay25_at (r : Fin 16) (l : Fin 128) : k0_pay25 (F := Ideal) p c s (ix3 0 r l)
    = spin (fun i => p (ix2 r ⟨1536 + i.val, by omega⟩)) (c (ix2 r l)) (s (ix2 r l)) l := by
  pointwise [k0_pay25]
theorem pay28_at (r : Fin 16) (l : Fin 128) :
    k0_pay28 (F := Ideal) c s (k0_pay26 p) (iota .tc S16x128 32 [1] iota_S16x128_d1_w32) (k0_pay27 p) (ix3 0 r l)
      = spin (fun i => p (ix2 r ⟨1664 + i.val, by omega⟩)) (c (ix2 r l)) (s (ix2 r l)) l := by
  pointwise [k0_pay28, k0_pay26, k0_pay27]

theorem pay29_at (r : Fin 16) (l : Fin 256) : k0_pay29 (F := Ideal) p (ix3 0 r l) = p (ix2 r ⟨1792 + l.val, by omega⟩) := by
  pointwise [k0_pay29]
theorem pay77_at (r : Fin 16) (l : Fin 512) : k0_pay77 (F := Ideal) p (ix3 0 r l) = p (ix2 r ⟨l.val, by omega⟩) := by
  pointwise [k0_pay77, k0_pay76]

/-- The indexer's lanes: the key's 64 turned, the others scaled. -/
theorem pay75_at (r : Fin 16) (l : Fin 128) : k0_pay75 (F := Ideal) p c s (k0_pay74 p) (ix3 0 r l)
    = if l.val < 64 then spin8 (fun i => p (ix2 r ⟨2560 + i.val, by omega⟩)) (c (ix2 r l)) (s (ix2 r l)) l
      else p (ix2 r ⟨2560 + l.val, by omega⟩) * Ideal.ofBits .f32 1026884851#32 := by
  rw [← select_decide, ← word64]
  pointwise [k0_pay75, k0_pay74]

/-- One group of the pooling: the windows' sums `q` over their row counts, less the row itself, times the group's weights. -/
abbrev group (u q : FVec Ideal S16x512 .f32) (n : BitVec 32) (o : ℕ) (ho : o + 128 ≤ 512) (wt : FVec Ideal S1x128x256 .bf16)
    (k : BitVec 32) (r : Fin 16) (j : Fin 256) : EReal :=
  ∑ x : Fin 128, (Ideal.div (q (ix2 r ⟨o + x.val, by omega⟩))
      (FloatOps.sitofp (F := Ideal) .f32 (IntOp.minsi (IntOp.addi (IntOp.addi k (BitVec.ofNat 32 r.val)) 1#32) n))
    - u (ix2 r ⟨o + x.val, by omega⟩)) * wt (ix3 0 x j)

variable (u q : FVec Ideal S16x512 .f32) (k : BitVec 32) (wt : FVec Ideal S1x128x256 .bf16)

theorem pay88_at (r : Fin 16) (j : Fin 256) :
    k0_pay88 (F := Ideal) u q k (iota .tc S16x128 32 [0] iota_S16x128_d0_w32) wt (ix2 r j) = group u q 2#32 0 (by omega) wt k r j := by
  have e : ∀ x : Fin 128, (⟨0 + x.val, by omega⟩ : Fin 512) = ⟨x.val, by omega⟩ := fun x => Fin.ext (Nat.zero_add _)
  simp only [group, e]
  pointwise [k0_pay88, k0_pay87]
theorem pay89_at (r : Fin 16) (j : Fin 256) :
    k0_pay89 (F := Ideal) u q k (iota .tc S16x128 32 [0] iota_S16x128_d0_w32) wt (ix2 r j) = group u q 4#32 128 (by omega) wt k r j := by
  pointwise [k0_pay89, k0_pay87]
theorem pay90_at (r : Fin 16) (j : Fin 256) :
    k0_pay90 (F := Ideal) u q k (iota .tc S16x128 32 [0] iota_S16x128_d0_w32) wt (ix2 r j) = group u q 8#32 256 (by omega) wt k r j := by
  pointwise [k0_pay90, k0_pay87]

/-- The four groups side by side, scaled and gated. -/
theorem pay91_at (a b d : FVec Ideal S16x256 .f32) (ps : FVec Ideal S1x1024 .f32) (r : Fin 16) (j : Fin 1024) :
    k0_pay91 (F := Ideal) p u q (k0_pay87 k (iota .tc S16x128 32 [0] iota_S16x128_d0_w32)) a b d 1#32 wt ps (ix3 0 r j)
      = sigm (p (ix2 r ⟨2688 + j.val, by omega⟩)) *
        ((if h : j.val < 256 then a (ix2 r ⟨j.val, h⟩)
          else if h : j.val - 256 < 256 then b (ix2 r ⟨j.val - 256, h⟩)
          else if h : j.val - 256 - 256 < 256 then d (ix2 r ⟨j.val - 256 - 256, h⟩)
          else group u q 16#32 384 (by omega) wt k r ⟨j.val - 256 - 256 - 256, by omega⟩) * ps (ix2 0 j)) := by
  pointwise [k0_pay91, k0_pay87]
  simp only [sigm, zero_sub]

theorem pay92_at (r : Fin 16) (j : Fin 1024) :
    k0_pay1 (k0_pay92 (F := Ideal) p) (ix3 0 r j) = sigm (p (ix2 r ⟨3712 + j.val, by omega⟩)) := by
  pointwise [k0_pay92, k0_pay1]
  simp only [sigm, zero_sub]
end Cert.KernelIdeal.Block
end
end
-- ==== Proof.ProjScratch.lean ====
module
public import proofs.«01_k».proof.Proof.ProjBlock
public import Idealize.ShloMosaic.Lib.Pipeline.ReadBack
public import Idealize.ShloMosaic.Lib.Pipeline.ValueKit
@[expose] public section
set_option maxRecDepth 16384
noncomputable section
namespace Cert.KernelIdeal.Scratch
open Idealize.ShloMosaic Idealize.ShloMosaic.TcCoe Idealize.SL.Sem
open Cert.KernelIdeal Cert.KernelIdeal.Gen Cert.Finish Cert.Proj

/-! The pooling's scratch arrays of 48 rows: zeros, the history and the projected rows under each other (`rows`); the sums of
    each row with the one above it (`two`); of those with the ones two rows above (`four`); and so on by doubling. -/

variable (h u : FVec Ideal S16x512 .f32)

def rows (r : ℕ) (k : Fin 512) : EReal :=
  if r < 16 then 0 else if hr : r - 16 < 16 then h (ix2 ⟨r - 16, hr⟩ k) else if hr : r - 32 < 16 then u (ix2 ⟨r - 32, hr⟩ k) else 0
def two (r : ℕ) (k : Fin 512) : EReal := rows h u r k + rows h u (r - 1) k
def four (r : ℕ) (k : Fin 512) : EReal := two h u r k + two h u (r - 2) k
def eight (r : ℕ) (k : Fin 512) : EReal := four h u r k + four h u (r - 4) k
def sixteen (r : ℕ) (k : Fin 512) : EReal := eight h u r k + eight h u (r - 8) k

/-- A function of row and column as an array of 48 rows. -/
abbrev arr (f : ℕ → Fin 512 → EReal) : FVec Ideal S48x512 .f32 := fun i => f (i 0).val (i 1)

/-- `n` whole rows from row `o` on. -/
abbrev band (o n : ℕ) (inb : ∀ a, (![o, 0] : Fin 2 → ℕ) a + (![n, 512] : Fin 2 → ℕ) a ≤ S48x512.size a) : Rect S48x512 :=
  Rect.unit ![o, 0] ![n, 512] inb

variable {o n : ℕ} (inb : ∀ a, (![o, 0] : Fin 2 → ℕ) a + (![n, 512] : Fin 2 → ℕ) a ≤ S48x512.size a)

/-- Row `y 0` of the band is row `o + y 0` of the array. -/
theorem arr_emb (f : ℕ → Fin 512 → EReal) (y : (band o n inb).shape.Idx) :
    arr f ((band o n inb).emb y) = f (o + (y 0).val) (y 1) := by
  have e0 : ((band o n inb).emb y 0).val = o + (y 0).val := by show o + 1 * (y 0).val = _; omega
  have e1 : ((band o n inb).emb y 1) = (y 1 : Fin 512) := Fin.ext (by show 0 + 1 * (y 1).val = _; omega)
  show f ((band o n inb).emb y 0).val ((band o n inb).emb y 1) = _
  rw [e0, e1]

theorem mem_band {o' n' : ℕ} (inb' : ∀ a, (![o', 0] : Fin 2 → ℕ) a + (![n', 512] : Fin 2 → ℕ) a ≤ S48x512.size a)
    (j : (band o n inb).shape.Idx) (h : o' ≤ o + (j 0).val) (h' : o + (j 0).val < o' + n') :
    (band o n inb).toLoadRect.idx j ∈ (band o' n' inb').set := by
  refine Rect.mem_set_unit.mpr fun a => ?_
  have e0 : ((band o n inb).toLoadRect.idx j 0).val = o + (j 0).val := by show o + 1 * (j 0).val = _; omega
  have e1 : ((band o n inb).toLoadRect.idx j 1).val = (j 1).val := by show 0 + 1 * (j 1).val = _; omega
  have l1 : (j 1).val < 512 := (j 1).isLt
  fin_cases a
  · show o' ≤ ((band o n inb).toLoadRect.idx j 0).val ∧ ((band o n inb).toLoadRect.idx j 0).val < o' + n'
    omega
  · show 0 ≤ ((band o n inb).toLoadRect.idx j 1).val ∧ ((band o n inb).toLoadRect.idx j 1).val < 0 + 512
    omega

/-- A load of a band from an array whose stores are all blocks of `f` and cover the band. -/
theorem load {sp : Space} (v : View sig .tc sp S48x512 .f32) (L : List (View.Piece (Elt Ideal) S48x512 .f32))
    (f : ℕ → Fin 512 → EReal) (hp : View.PiecesOf (arr f) L)
    (hc : ∀ j : (band o n inb).shape.Idx, ∃ p ∈ L, (band o n inb).toLoadRect.idx j ∈ p.1.set) :
    v.readCov L (band o n inb).toLoadRect = fun j => f (o + (j 0).val) (j 1) := by
  rw [View.readCov_eq_canon']
  funext j
  have e := View.canon_append_of_piecesOf (arr f) [] L hp _ (hc j)
  rw [List.append_nil] at e
  exact e.trans (arr_emb inb f j)

/-- A load of a band from an array of which one band has been stored, a block of `f`. -/
theorem load_one {sp : Space} (v : View sig .tc sp S48x512 .f32) {o' n' : ℕ}
    (inb' : ∀ a, (![o', 0] : Fin 2 → ℕ) a + (![n', 512] : Fin 2 → ℕ) a ≤ S48x512.size a)
    (w : (band o' n' inb').shape.Idx → Elt Ideal .f32) (f : ℕ → Fin 512 → EReal)
    (hw : ∀ y, w y = f (o' + (y 0).val) (y 1)) (h : o' ≤ o) (h' : o + n ≤ o' + n') :
    v.readCov [⟨band o' n' inb', w⟩] (band o n inb).toLoadRect = fun j => f (o + (j 0).val) (j 1) := by
  refine load inb v _ f ⟨fun y => (hw y).trans (arr_emb inb' f y).symm, trivial⟩ fun j => ⟨_, List.mem_singleton_self _, ?_⟩
  have l0 : (j 0).val < n := (j 0).isLt
  exact mem_band inb inb' j (by omega) (by omega)

variable (x : FVec Ideal S1x16x512 .f32) (p : FVec Ideal S16x4736 .f32)

theorem load_rows (h : o + n ≤ 48) :
    (View.whole cc0_scratch0).readCov
      ([⟨Rect.unit ![32, 0] ![16, 512] inb_S48x512_S16x512_32_0, k0_pay80 (F := Ideal) p⟩,
        ⟨Rect.unit ![16, 0] ![16, 512] inb_S48x512_S16x512_16_0, k0_pay79 (F := Ideal) x⟩,
        ⟨Rect.unit ![0, 0] ![16, 512] inb_S48x512_S16x512_0_0, k0_pay78 (F := Ideal)⟩] : List (View.Piece (Elt Ideal) S48x512 .f32))
      (Rect.unit (s := S48x512) ![o, 0] ![n, 512] inb).toLoadRect
      = fun j => rows (k0_pay79 x) (k0_pay80 p) (o + (j 0).val) (j 1) := by
  refine load inb _ _ _ ⟨fun y => ?_, fun y => ?_, fun y => ?_, trivial⟩ fun j => ?_
  · refine Eq.trans ?_ (arr_emb inb_S48x512_S16x512_32_0 _ y).symm
    have l0 : (y 0).val < 16 := (y 0).isLt
    unfold rows
    rw [if_neg (by omega), dif_neg (by omega), dif_pos (by omega)]
    refine congrArg (fun i : S16x512.Idx => k0_pay80 (F := Ideal) p i) (a₁ := y) (a₂ := ix2 _ _) ?_
    obtain ⟨r, k, rfl⟩ : ∃ (r : Fin 16) (k : Fin 512), y = (ix2 r k : S16x512.Idx) := ⟨y 0, y 1, eq_ix2 y⟩
    blk_ext
  · refine Eq.trans ?_ (arr_emb inb_S48x512_S16x512_16_0 _ y).symm
    have l0 : (y 0).val < 16 := (y 0).isLt
    unfold rows
    rw [if_neg (by omega), dif_pos (by omega)]
    refine congrArg (fun i : S16x512.Idx => k0_pay79 (F := Ideal) x i) (a₁ := y) (a₂ := ix2 _ _) ?_
    obtain ⟨r, k, rfl⟩ : ∃ (r : Fin 16) (k : Fin 512), y = (ix2 r k : S16x512.Idx) := ⟨y 0, y 1, eq_ix2 y⟩
    blk_ext
  · refine Eq.trans ?_ (arr_emb inb_S48x512_S16x512_0_0 _ y).symm
    have l0 : (y 0).val < 16 := (y 0).isLt
    unfold rows
    rw [if_pos (by omega)]
    obtain ⟨r, k, rfl⟩ : ∃ (r : Fin 16) (k : Fin 512), y = (ix2 r k : S16x512.Idx) := ⟨y 0, y 1, eq_ix2 y⟩
    show k0_pay78 (F := Ideal) (ix2 r k) = 0
    pointwise [k0_pay78]
  · have l0 : (j 0).val < n := (j 0).isLt
    by_cases h1 : o + (j 0).val < 16
    · exact ⟨_, List.mem_cons_of_mem _ (List.mem_cons_of_mem _ List.mem_cons_self),
        mem_band inb inb_S48x512_S16x512_0_0 j (by omega) (by omega)⟩
    · by_cases h2 : o + (j 0).val < 32
      · exact ⟨_, List.mem_cons_of_mem _ List.mem_cons_self, mem_band inb inb_S48x512_S16x512_16_0 j (by omega) (by omega)⟩
      · exact ⟨_, List.mem_cons_self, mem_band inb inb_S48x512_S16x512_32_0 j (by omega) (by omega)⟩

/-- The stores of the four arrays, each of its own sums. -/
abbrev st0 : List (View.Piece (Elt Ideal) S48x512 .f32) :=
  [⟨Rect.unit ![32, 0] ![16, 512] inb_S48x512_S16x512_32_0, k0_pay80 (F := Ideal) p⟩,
    ⟨Rect.unit ![16, 0] ![16, 512] inb_S48x512_S16x512_16_0, k0_pay79 (F := Ideal) x⟩,
    ⟨Rect.unit ![0, 0] ![16, 512] inb_S48x512_S16x512_0_0, k0_pay78 (F := Ideal)⟩]
abbrev st1 : List (View.Piece (Elt Ideal) S48x512 .f32) :=
  [⟨Rect.unit ![8, 0] ![40, 512] inb_S48x512_S40x512_8_0, k0_pay82 (F := Ideal) (k0_pay81 (F := Ideal)
    ((View.whole cc0_scratch0).readCov (st0 x p) (Rect.unit (s := S48x512) ![8, 0] ![40, 512] inb_S48x512_S40x512_8_0).toLoadRect)
    ((View.whole cc0_scratch0).readCov (st0 x p) (Rect.unit (s := S48x512) ![7, 0] ![40, 512] inb_S48x512_S40x512_7_0).toLoadRect))⟩]
abbrev st2 : List (View.Piece (Elt Ideal) S48x512 .f32) :=
  [⟨Rect.unit ![16, 0] ![32, 512] inb_S48x512_S32x512_16_0, k0_pay83 (F := Ideal)
    ((View.whole cc0_scratch1).readCov (st1 x p) (Rect.unit (s := S48x512) ![16, 0] ![32, 512] inb_S48x512_S32x512_16_0).toLoadRect)
    ((View.whole cc0_scratch1).readCov (st1 x p) (Rect.unit (s := S48x512) ![14, 0] ![32, 512] inb_S48x512_S32x512_14_0).toLoadRect)⟩]
abbrev st3 : List (View.Piece (Elt Ideal) S48x512 .f32) :=
  [⟨Rect.unit ![24, 0] ![24, 512] inb_S48x512_S24x512_24_0, k0_pay84 (F := Ideal)
    ((View.whole cc0_scratch2).readCov (st2 x p) (Rect.unit (s := S48x512) ![24, 0] ![24, 512] inb_S48x512_S24x512_24_0).toLoadRect)
    ((View.whole cc0_scratch2).readCov (st2 x p) (Rect.unit (s := S48x512) ![20, 0] ![24, 512] inb_S48x512_S24x512_20_0).toLoadRect)⟩]

theorem load_two (h : 8 ≤ o) (h' : o + n ≤ 48) :
    (View.whole cc0_scratch1).readCov (st1 x p) (Rect.unit (s := S48x512) ![o, 0] ![n, 512] inb).toLoadRect
      = fun j => two (k0_pay79 x) (k0_pay80 p) (o + (j 0).val) (j 1) := by
  refine load_one inb _ inb_S48x512_S40x512_8_0 _ _ (fun y => ?_) h (by omega)
  rw [load_rows inb_S48x512_S40x512_8_0 x p (by omega), load_rows inb_S48x512_S40x512_7_0 x p (by omega)]
  obtain ⟨r, k, rfl⟩ : ∃ (r : Fin 40) (k : Fin 512), y = (ix2 r k : S40x512.Idx) := ⟨y 0, y 1, eq_ix2 y⟩
  unfold two
  rw [show 8 + ((ix2 r k : S40x512.Idx) 0).val - 1 = 7 + r.val from by show 8 + r.val - 1 = _; omega]
  pointwise [k0_pay82, k0_pay81]

theorem load_four (h : 16 ≤ o) (h' : o + n ≤ 48) :
    (View.whole cc0_scratch2).readCov (st2 x p) (Rect.unit (s := S48x512) ![o, 0] ![n, 512] inb).toLoadRect
      = fun j => four (k0_pay79 x) (k0_pay80 p) (o + (j 0).val) (j 1) := by
  refine load_one inb _ inb_S48x512_S32x512_16_0 _ _ (fun y => ?_) h (by omega)
  rw [load_two inb_S48x512_S32x512_16_0 x p (by omega) (by omega), load_two inb_S48x512_S32x512_14_0 x p (by omega) (by omega)]
  obtain ⟨r, k, rfl⟩ : ∃ (r : Fin 32) (k : Fin 512), y = (ix2 r k : S32x512.Idx) := ⟨y 0, y 1, eq_ix2 y⟩
  unfold four
  rw [show 16 + ((ix2 r k : S32x512.Idx) 0).val - 2 = 14 + r.val from by show 16 + r.val - 2 = _; omega]
  pointwise [k0_pay83]

theorem load_eight (h : 24 ≤ o) (h' : o + n ≤ 48) :
    (View.whole cc0_scratch3).readCov (st3 x p) (Rect.unit (s := S48x512) ![o, 0] ![n, 512] inb).toLoadRect
      = fun j => eight (k0_pay79 x) (k0_pay80 p) (o + (j 0).val) (j 1) := by
  refine load_one inb _ inb_S48x512_S24x512_24_0 _ _ (fun y => ?_) h (by omega)
  rw [load_four inb_S48x512_S24x512_24_0 x p (by omega) (by omega), load_four inb_S48x512_S24x512_20_0 x p (by omega) (by omega)]
  obtain ⟨r, k, rfl⟩ : ∃ (r : Fin 24) (k : Fin 512), y = (ix2 r k : S24x512.Idx) := ⟨y 0, y 1, eq_ix2 y⟩
  unfold eight
  rw [show 24 + ((ix2 r k : S24x512.Idx) 0).val - 4 = 20 + r.val from by show 24 + r.val - 4 = _; omega]
  pointwise [k0_pay84]

/-! Over the last 16 rows the doubled sums are the sums of the last 2, 4, 8 and 16 rows. -/

variable (F : ℕ → EReal) (k : Fin 512) (t : ℕ) (hr : ∀ i, i < 16 → rows h u (32 + t - i) k = F i)

include hr
theorem two_sum : two h u (32 + t) k = ∑ i : Fin 2, F i.val := by
  rw [← Finset.sum_range F]
  have r0 := hr 0 (by omega)
  rw [Nat.sub_zero] at r0
  simp only [two, r0, hr 1 (by omega), Finset.sum_range_succ, Finset.sum_range_zero, zero_add]

theorem four_sum : four h u (32 + t) k = ∑ i : Fin 4, F i.val := by
  rw [← Finset.sum_range F]
  have r0 := hr 0 (by omega)
  rw [Nat.sub_zero] at r0
  simp only [four, two, Nat.sub_sub, Nat.reduceAdd, r0, hr 1 (by omega), hr 2 (by omega), hr 3 (by omega),
    Finset.sum_range_succ, Finset.sum_range_zero, zero_add, add_assoc]

theorem eight_sum : eight h u (32 + t) k = ∑ i : Fin 8, F i.val := by
  rw [← Finset.sum_range F]
  have r0 := hr 0 (by omega)
  rw [Nat.sub_zero] at r0
  simp only [eight, four, two, Nat.sub_sub, Nat.reduceAdd, r0, hr 1 (by omega), hr 2 (by omega), hr 3 (by omega), hr 4 (by omega),
    hr 5 (by omega), hr 6 (by omega), hr 7 (by omega), Finset.sum_range_succ, Finset.sum_range_zero, zero_add, add_assoc]

theorem sixteen_sum : sixteen h u (32 + t) k = ∑ i : Fin 16, F i.val := by
  rw [← Finset.sum_range F]
  have r0 := hr 0 (by omega)
  rw [Nat.sub_zero] at r0
  simp only [sixteen, eight, four, two, Nat.sub_sub, Nat.reduceAdd, r0, hr 1 (by omega), hr 2 (by omega), hr 3 (by omega),
    hr 4 (by omega), hr 5 (by omega), hr 6 (by omega), hr 7 (by omega), hr 8 (by omega), hr 9 (by omega), hr 10 (by omega),
    hr 11 (by omega), hr 12 (by omega), hr 13 (by omega), hr 14 (by omega), hr 15 (by omega), Finset.sum_range_succ,
    Finset.sum_range_zero, zero_add, add_assoc]

end Cert.KernelIdeal.Scratch
end
end
-- ==== Proof.ProjArray.lean ====
module
public import proofs.«01_k».proof.Proof.Gen.KernelIdeal.Value
public import proofs.«01_k».proof.Proof.ProjHost
public import proofs.«01_k».proof.Proof.ProjScratch
public import Idealize.ShloMosaic.Lib.Claim
@[expose] public section
set_option maxRecDepth 16384
noncomputable section
namespace Cert.KernelIdeal.Arr
open Idealize.ShloMosaic Idealize.ShloMosaic.TcCoe Idealize.SL.Sem
open Idealize.ShloMosaic.Pipeline (Dat)
open Cert.KernelIdeal Cert.KernelIdeal.Gen Cert.Finish Cert.Proj

variable (m : (ℓ : Loc nD τ sig) → Buf (Elt Ideal) ℓ) (c : Dev nD)

/-- Which block each window takes at each of the 32 steps, step `t` being batch entry `t`. -/
theorem idx : ∀ t : Fin cfg0.N, win0_0.index t = ![t.val, 0, 0] ∧ win0_1.index t = ![0, 0] ∧ win0_2.index t = ![0, 0]
    ∧ win0_3.index t = ![t.val, 0, 0] ∧ win0_4.index t = ![0, 0] ∧ win0_5.index t = ![0, 0] ∧ win0_6.index t = ![0, 0]
    ∧ win0_7.index t = ![0, 0] ∧ win0_8.index t = ![0, 0, 0] ∧ win0_9.index t = ![0, 0] ∧ win0_10.index t = ![t.val, 0, 0]
    ∧ win0_11.index t = ![t.val, 0, 0, 0] ∧ win0_12.index t = ![t.val, 0, 0] ∧ win0_13.index t = ![t.val, 0, 0]
    ∧ win0_15.index t = ![t.val, 0, 0] ∧ win0_16.index t = ![t.val, 0, 0] ∧ win0_17.index t = ![t.val, 0, 0] :=
  (by decide +kernel : ∀ t : Fin grid0.N, _)

abbrev ent (t : Fin cfg0.N) : Fin 32 := ⟨t.val, t.isLt⟩

/-! The arguments' arrays. -/
abbrev XA : FVec Ideal S32x16x1024 .f32 := m ((c : Thread nD τ).loc main_arg0)
abbrev SPA : FVec Ideal S1x32x15x512 .f32 := m ((c : Thread nD τ).loc main_arg1)
abbrev WA : FVec Ideal S1x1024x4680 .f32 := m ((c : Thread nD τ).loc main_arg2)
abbrev WPA : FVec Ideal S1x4x128x256 .f32 := m ((c : Thread nD τ).loc main_arg3)
abbrev PSA : FVec Ideal S1x1024 .f32 := m ((c : Thread nD τ).loc main_arg4)
abbrev GA : FVec Ideal S1x1024 .f32 := m ((c : Thread nD τ).loc main_arg5)

/-! What each input window's block holds. -/
theorem read0 (t : Fin cfg0.N) (r : Fin 16) (k : Fin 1024) :
    (iblk m c 0 t : FVec Ideal S1x16x1024 .f32) (ix3 0 r k) = XA m c (ix3 (ent t) r k) := by
  blk_simp [iblk, idx t]; entry_read; pointwise; blk_ext [idx t]
theorem read1 (t : Fin cfg0.N) (k : Fin 1024) :
    (iblk m c 1 t : FVec Ideal S1x1024 .f32) (ix2 0 k) = GA m c (ix2 0 k) := by
  blk_simp [iblk, idx t]; entry_read; pointwise; blk_ext [idx t]
theorem read8 (t : Fin cfg0.N) (g : Fin 4) (k : Fin 128) (l : Fin 256) :
    (iblk m c 8 t : FVec Ideal S4x128x256 .bf16) (ix3 g k l) = WPA m c (ix4 0 g k l) := by
  blk_simp [iblk, idx t]; entry_read; pointwise; blk_ext [idx t]
theorem read9 (t : Fin cfg0.N) (k : Fin 1024) :
    (iblk m c 9 t : FVec Ideal S1x1024 .f32) (ix2 0 k) = PSA m c (ix2 0 k) := by
  blk_simp [iblk, idx t]; entry_read; pointwise; blk_ext [idx t]

theorem read2 (t : Fin cfg0.N) (k : Fin 1024) (l : Fin 4736) :
    (iblk m c 2 t : FVec Ideal S1024x4736 .bf16) (ix2 k l) = wide (fun k l => WA m c (ix3 0 k l)) k l := by
  refine Eq.trans ?_ (Host.e8 m c k l)
  blk_simp [iblk, idx t]
  blk_ext [idx t]
theorem read4 (t : Fin cfg0.N) (r : Fin 16) (l : Fin 128) :
    (iblk m c 4 t : FVec Ideal S16x128 .f32) (ix2 r l) = tabC 16 (angle 1098907648#32 r.val) l.val := by
  refine Eq.trans ?_ (Host.e39 m c r l)
  blk_simp [iblk, idx t]
  blk_ext [idx t]
theorem read5 (t : Fin cfg0.N) (r : Fin 16) (l : Fin 128) :
    (iblk m c 5 t : FVec Ideal S16x128 .f32) (ix2 r l) = tabS 16 (angle 1098907648#32 r.val) l.val := by
  refine Eq.trans ?_ (Host.e42 m c r l)
  blk_simp [iblk, idx t]
  blk_ext [idx t]
theorem read6 (t : Fin cfg0.N) (r : Fin 16) (l : Fin 128) :
    (iblk m c 6 t : FVec Ideal S16x128 .f32) (ix2 r l) = tabC 8 (angle 1090519040#32 r.val) (l.val % 64) := by
  refine Eq.trans ?_ (Host.e64 m c r l)
  blk_simp [iblk, idx t]
  blk_ext [idx t]
theorem read7 (t : Fin cfg0.N) (r : Fin 16) (l : Fin 128) :
    (iblk m c 7 t : FVec Ideal S16x128 .f32) (ix2 r l) = tabS 8 (angle 1090519040#32 r.val) (l.val % 64) := by
  refine Eq.trans ?_ (Host.e67 m c r l)
  blk_simp [iblk, idx t]
  blk_ext [idx t]

theorem read3 (t : Fin cfg0.N) (r : Fin 16) (k : Fin 512) :
    (iblk m c 3 t : FVec Ideal S1x16x512 .f32) (ix3 0 r k)
      = if h : r.val < 1 then (0 : EReal) else SPA m c (ix4 0 (ent t) ⟨r.val - 1, by omega⟩ k) := by
  refine Eq.trans ?_ (Host.e2 m c (ent t) r k)
  blk_simp [iblk, idx t]
  blk_ext [idx t]

/-! The arguments of batch entry `b`. -/
abbrev MX (b : Fin 32) : Fin 16 → Fin 1024 → EReal := fun t k => XA m c (ix3 b t k)
abbrev MSP (b : Fin 32) : Fin 15 → Fin 512 → EReal := fun t k => SPA m c (ix4 0 b t k)
abbrev MW : Fin 1024 → Fin 4680 → EReal := fun k l => WA m c (ix3 0 k l)
abbrev MG : Fin 1024 → EReal := fun k => GA m c (ix2 0 k)
abbrev MWP : Fin 4 → Fin 128 → Fin 256 → EReal := fun e k l => WPA m c (ix4 0 e k l)
abbrev MPS : Fin 1024 → EReal := fun j => PSA m c (ix2 0 j)

/-- The rows the block of step `t` projects. -/
abbrev P (t : Fin cfg0.N) : FVec Ideal S16x4736 .f32 := k0_pay2 (F := Ideal) (iblk m c 0 t) (iblk m c 1 t) (iblk m c 2 t)

theorem P_at (t : Fin cfg0.N) (r : Fin 16) (l : Fin 4736) :
    P m c t (ix2 r l) = wcol (MX m c (ent t)) (MG m c) (MW m c) r l := by
  unfold P
  rw [Block.pay2_at]
  simp only [read0, read1, read2, wcol]

/-- Below column 2632 the projected rows are the reference's. -/
theorem P_low (t : Fin cfg0.N) (r : Fin 16) (l : ℕ) (h : l < 2632) :
    P m c t (ix2 r ⟨l, by omega⟩) = col (MX m c (ent t)) (MG m c) (MW m c) r ⟨l, by omega⟩ :=
  (P_at m c t r _).trans (wcol_low _ _ _ _ _ _ h rfl)

/-- From column 2688 on they are the reference's 56 columns before. -/
theorem P_high (t : Fin cfg0.N) (r : Fin 16) (l : ℕ) (h : 2632 ≤ l) (h' : l < 4680) :
    P m c t (ix2 r ⟨l + 56, by omega⟩) = col (MX m c (ent t)) (MG m c) (MW m c) r ⟨l, h'⟩ :=
  (P_at m c t r _).trans (wcol_high _ _ _ _ _ _ (by show 2688 ≤ l + 56; omega) rfl)

theorem P_zero (t : Fin cfg0.N) (r : Fin 16) (l : ℕ) (h : 2632 ≤ l) (h' : l < 2688) :
    P m c t (ix2 r ⟨l, by omega⟩) = 0 :=
  (P_at m c t r _).trans (wcol_zero _ _ _ _ _ h h')

/-! The result arrays, by batch entry. -/
def uRow (b : Fin 32) (t : Fin 16) (l : Fin 512) : EReal := col (MX m c b) (MG m c) (MW m c) t ⟨l.val, by omega⟩
def vRow (b : Fin 32) (t : Fin 16) (l : Fin 256) : EReal := col (MX m c b) (MG m c) (MW m c) t ⟨1792 + l.val, by omega⟩
def out10 : FVec Ideal S32x16x512 .f32 := fun i => uRow m c (i 0) (i 1) (i 2)
def out11 : FVec Ideal S32x8x16x128 .bf16 := fun i => qOut (MX m c (i 0)) (MG m c) (MW m c) (i 1) (i 2) (i 3)
def out12 : FVec Ideal S32x16x256 .f32 := fun i => kOut (MX m c (i 0)) (MG m c) (MW m c) (i 1) (i 2)
def out13 : FVec Ideal S32x16x256 .f32 := fun i => vRow m c (i 0) (i 1) (i 2)
def out15 : FVec Ideal S32x16x128 .f32 := fun i => kiwOut (MX m c (i 0)) (MG m c) (MW m c) (i 1) (i 2)
def out16 : FVec Ideal S32x16x1024 .f32 := fun i =>
  paOut (MX m c (i 0)) (MG m c) (MW m c) (MSP m c (i 0)) (MWP m c) (MPS m c) (i 1) (i 2)
def out17 : FVec Ideal S32x16x1024 .f32 := fun i => sgbOut (MX m c (i 0)) (MG m c) (MW m c) (i 1) (i 2)

/-! Where each block lies in its result array. -/
theorem emb10 (t : Fin cfg0.N) (r : Fin 16) (j : Fin 512) :
    ((cfg0.win 10).blk t).view.emb (ix3 0 r j : S1x16x512.Idx) = (ix3 (ent t) r j : S32x16x512.Idx) := by blk_ext [idx t]
theorem emb11 (t : Fin cfg0.N) (h : Fin 8) (r : Fin 16) (j : Fin 128) :
    ((cfg0.win 11).blk t).view.emb (ix4 0 h r j : S1x8x16x128.Idx) = (ix4 (ent t) h r j : S32x8x16x128.Idx) := by
  blk_ext [idx t]
theorem emb12 (t : Fin cfg0.N) (r : Fin 16) (j : Fin 256) :
    ((cfg0.win 12).blk t).view.emb (ix3 0 r j : S1x16x256.Idx) = (ix3 (ent t) r j : S32x16x256.Idx) := by blk_ext [idx t]
theorem emb13 (t : Fin cfg0.N) (r : Fin 16) (j : Fin 256) :
    ((cfg0.win 13).blk t).view.emb (ix3 0 r j : S1x16x256.Idx) = (ix3 (ent t) r j : S32x16x256.Idx) := by blk_ext [idx t]
theorem emb15 (t : Fin cfg0.N) (r : Fin 16) (j : Fin 128) :
    ((cfg0.win 15).blk t).view.emb (ix3 0 r j : S1x16x128.Idx) = (ix3 (ent t) r j : S32x16x128.Idx) := by blk_ext [idx t]
theorem emb16 (t : Fin cfg0.N) (r : Fin 16) (j : Fin 1024) :
    ((cfg0.win 16).blk t).view.emb (ix3 0 r j : S1x16x1024.Idx) = (ix3 (ent t) r j : S32x16x1024.Idx) := by blk_ext [idx t]
theorem emb17 (t : Fin cfg0.N) (r : Fin 16) (j : Fin 1024) :
    ((cfg0.win 17).blk t).view.emb (ix3 0 r j : S1x16x1024.Idx) = (ix3 (ent t) r j : S32x16x1024.Idx) := by blk_ext [idx t]

/-! The tables at a row and lane. -/
theorem C_at (t : Fin cfg0.N) (r : Fin 16) (l : Fin 128) :
    k0_pay3 (F := Ideal) (iblk m c 4 t) (ix2 r l) = tabC 16 (angle 1098907648#32 r.val) l.val :=
  (congrFun (shapeCast_self _ _) _).trans (read4 m c t r l)
theorem S_at (t : Fin cfg0.N) (r : Fin 16) (l : Fin 128) :
    k0_pay4 (F := Ideal) (iblk m c 5 t) (ix2 r l) = tabS 16 (angle 1098907648#32 r.val) l.val :=
  (congrFun (shapeCast_self _ _) _).trans (read5 m c t r l)
theorem C8_at (t : Fin cfg0.N) (r : Fin 16) (l : Fin 128) :
    k0_pay5 (F := Ideal) (iblk m c 6 t) (ix2 r l) = tabC 8 (angle 1090519040#32 r.val) (l.val % 64) :=
  (congrFun (shapeCast_self _ _) _).trans (read6 m c t r l)
theorem S8_at (t : Fin cfg0.N) (r : Fin 16) (l : Fin 128) :
    k0_pay6 (F := Ideal) (iblk m c 7 t) (ix2 r l) = tabS 8 (angle 1090519040#32 r.val) (l.val % 64) :=
  (congrFun (shapeCast_self _ _) _).trans (read7 m c t r l)

/-- The indexer's row at lane `j`. -/
theorem kiw_point (t : Fin cfg0.N) (r : Fin 16) (j : Fin 128) :
    k0_pay75 (F := Ideal) (P m c t) (k0_pay5 (iblk m c 6 t)) (k0_pay6 (iblk m c 7 t)) (k0_pay74 (P m c t)) (ix3 0 r j)
      = kiwOut (MX m c (ent t)) (MG m c) (MW m c) r j := by
  rw [Block.pay75_at]
  unfold kiwOut
  by_cases h : j.val < 64
  · rw [if_pos h, dif_pos h, C8_at, S8_at, spin8_eq _ _ _ h]
    exact turn_congr _ _ _ _ h fun i hi => P_low m c t r (2560 + i.val) (by omega)
  · rw [if_neg h, dif_neg h]
    by_cases h' : j.val - 64 < 8
    · rw [dif_pos h', P_low m c t r (2560 + j.val) (by omega)]
      congr 2
      exact Fin.ext (show 2560 + j.val = 2624 + (j.val - 64) by omega)
    · rw [dif_neg h', P_zero m c t r (2560 + j.val) (by omega) (by omega), zero_mul]

/-- One of the query's eight stores, of the lanes from column `o` on: head `h`. -/
theorem q_piece (t : Fin cfg0.N) (x : S1x1x16x128.Idx) (h : Fin 8) (r : Fin 16) (j : Fin 128) (v : FVec Ideal S1x1x16x128 .bf16)
    (o : ℕ) (ho : o = 512 + h.val * 128) (hx2 : r.val = (x 2).val) (hx3 : j.val = (x 3).val) (hb : o + 128 ≤ 2632)
    (hv : ∀ (r : Fin 16) (l : Fin 128), v (ix4 0 0 r l)
      = spin (fun i => P m c t (ix2 r ⟨o + i.val, by omega⟩)) (k0_pay3 (F := Ideal) (iblk m c 4 t) (ix2 r l))
          (k0_pay4 (F := Ideal) (iblk m c 5 t) (ix2 r l)) l * Ideal.ofBits .f32 1040356334#32) :
    v x = out11 m c (ix4 (ent t) h r j) := by
  have e : x = (ix4 0 0 r j : S1x1x16x128.Idx) := by blk_ext
  rw [e, hv, C_at, S_at, spin_eq]
  show _ = qOut (MX m c (ent t)) (MG m c) (MW m c) h r j
  unfold qOut
  subst ho
  congr 2
  funext i
  refine (P_low m c t r (512 + h.val * 128 + i.val) (by omega)).trans ?_
  congr 1
  exact Fin.ext (Nat.add_assoc _ _ _)

/-- One of the key's two stores, of the array's lanes from `d` on. -/
theorem k_piece (t : Fin cfg0.N) (x : S1x16x128.Idx) (r : Fin 16) (j : Fin 256) (v : FVec Ideal S1x16x128 .f32)
    (d : ℕ) (hd : d ≤ 128) (hm : d / 128 * 128 = d) (hx1 : r.val = (x 1).val) (hx2 : j.val = d + (x 2).val)
    (hv : ∀ (r : Fin 16) (l : Fin 128), v (ix3 0 r l)
      = spin (fun i => P m c t (ix2 r ⟨1536 + d + i.val, by omega⟩)) (k0_pay3 (F := Ideal) (iblk m c 4 t) (ix2 r l))
          (k0_pay4 (F := Ideal) (iblk m c 5 t) (ix2 r l)) l) :
    v x = out12 m c (ix3 (ent t) r j) := by
  have l2 : (x 2).val < 128 := (x 2).isLt
  have e : x = (ix3 0 r ⟨j.val % 128, by omega⟩ : S1x16x128.Idx) := by
    blk_ext
    all_goals omega
  rw [e, hv, C_at, S_at, spin_eq]
  show _ = kOut (MX m c (ent t)) (MG m c) (MW m c) r j
  unfold kOut
  congr 1
  funext i
  refine (P_low m c t r (1536 + d + i.val) (by omega)).trans ?_
  congr 1
  exact Fin.ext (show 1536 + d + i.val = 1536 + (j.val / 128 * 128 + i.val) by omega)

/-! The pooling. -/

theorem pay79_at (x : FVec Ideal S1x16x512 .f32) (r : Fin 16) (k : Fin 512) :
    k0_pay79 (F := Ideal) x (ix2 r k) = x (ix3 0 r k) := by pointwise [k0_pay79]
theorem pay76_at (p : FVec Ideal S16x4736 .f32) (r : Fin 16) (k : Fin 512) :
    k0_pay76 (F := Ideal) p (ix2 r k) = p (ix2 r ⟨k.val, by omega⟩) := by pointwise [k0_pay76]
theorem pay80_at (p : FVec Ideal S16x4736 .f32) (r : Fin 16) (k : Fin 512) :
    k0_pay80 (F := Ideal) p (ix2 r k) = p (ix2 r ⟨k.val, by omega⟩) := by pointwise [k0_pay80, k0_pay76]

/-- Row `32 + r - i` of the first scratch array is the row `i` before row `r`, of the history or projected. -/
theorem rows_at (t : Fin cfg0.N) (r : Fin 16) (k : Fin 512) (i : ℕ) (hi : i < 16) :
    Scratch.rows (k0_pay79 (F := Ideal) (iblk m c 3 t)) (k0_pay80 (F := Ideal) (P m c t)) (32 + r.val - i) k
      = ext (MX m c (ent t)) (MG m c) (MW m c) (MSP m c (ent t)) (15 - i + r.val) k := by
  rw [ext_eq _ _ _ _ _ (by omega)]
  unfold Scratch.rows
  rw [if_neg (by omega)]
  by_cases h : 15 - i + r.val < 15
  · rw [dif_pos (by omega), dif_pos h, pay79_at, read3, dif_neg (by show ¬ 32 + r.val - i - 16 < 1; omega)]
    exact congrArg (SPA m c) (by blk_ext)
  · rw [dif_neg (by omega), dif_pos (by omega), dif_neg h, pay80_at, P_low m c t _ k.val (by omega)]
    congr 1
    exact Fin.ext (show 32 + r.val - i - 32 = 15 - i + r.val - 15 by omega)

/-- A window's sum in the last 16 scratch rows gives the group's pooled row. -/
theorem group_pooled (t : Fin cfg0.N) (u q : FVec Ideal S16x512 .f32) (w o : ℕ) (ho : o + 128 ≤ 512) (wt : FVec Ideal S1x128x256 .bf16)
    (k : BitVec 32) (hk : k = 4096#32) (e : Fin 4) (r : Fin 16) (j : Fin 256)
    (hu : ∀ x : Fin 512, u (ix2 r x) = P m c t (ix2 r ⟨x.val, by omega⟩))
    (hq : ∀ x : Fin 512, q (ix2 r x)
      = ∑ i : Fin w, ext (MX m c (ent t)) (MG m c) (MW m c) (MSP m c (ent t)) (15 - i.val + r.val) x)
    (hw : ∀ x : Fin 128, wt (ix3 0 x j) = WPA m c (ix4 0 e x j)) :
    Block.group u q (BitVec.ofNat 32 w) o ho wt k r j
      = rowMul (pooled (MX m c (ent t)) (MG m c) (MW m c) (MSP m c (ent t)) w o ho r) (MWP m c e) j := by
  unfold Block.group rowMul pooled cover posn
  refine Finset.sum_congr rfl fun x _ => ?_
  rw [hq, hu, hw, hk, P_low m c t r (o + x.val) (by omega)]

theorem final10 : (dats m 0 c).arrAt 10 (cfgs 0).N = out10 m c := by
  refine (dats m 0 c).arrAt_eq_of_covers 10 _ (by decide +kernel) fun t hf y => ?_
  obtain ⟨r, j, rfl⟩ : ∃ (r : Fin 16) (j : Fin 512), y = (ix3 0 r j : S1x16x512.Idx) := ⟨y 1, y 2, by blk_ext⟩
  rw [emb10 t r j]
  blk_simp
  rw [after0_10]
  unfold Gen.outsAt0
  frame_out
  exact (Block.pay77_at _ r j).trans (P_low m c t r j.val (by omega))

theorem final13 : (dats m 0 c).arrAt 13 (cfgs 0).N = out13 m c := by
  refine (dats m 0 c).arrAt_eq_of_covers 13 _ (by decide +kernel) fun t hf y => ?_
  obtain ⟨r, j, rfl⟩ : ∃ (r : Fin 16) (j : Fin 256), y = (ix3 0 r j : S1x16x256.Idx) := ⟨y 1, y 2, by blk_ext⟩
  rw [emb13 t r j]
  blk_simp
  rw [after0_13]
  unfold Gen.outsAt0
  frame_out
  exact (Block.pay29_at _ r j).trans (P_low m c t r (1792 + j.val) (by omega))

theorem final17 : (dats m 0 c).arrAt 17 (cfgs 0).N = out17 m c := by
  refine (dats m 0 c).arrAt_eq_of_covers 17 _ (by decide +kernel) fun t hf y => ?_
  obtain ⟨r, j, rfl⟩ : ∃ (r : Fin 16) (j : Fin 1024), y = (ix3 0 r j : S1x16x1024.Idx) := ⟨y 1, y 2, by blk_ext⟩
  rw [emb17 t r j]
  blk_simp
  rw [after0_17]
  unfold Gen.outsAt0
  frame_out
  refine (Block.pay92_at _ r j).trans (congrArg sigm ?_)
  refine Eq.trans ?_ (P_high m c t r (3656 + j.val) (by omega) (by omega))
  exact congrArg (P m c t) (by blk_ext)

theorem final11 : (dats m 0 c).arrAt 11 (cfgs 0).N = out11 m c := by
  refine (dats m 0 c).arrAt_eq_of_covers 11 _ (by decide +kernel) fun t hf y => ?_
  obtain ⟨h, r, j, rfl⟩ : ∃ (h : Fin 8) (r : Fin 16) (j : Fin 128), y = (ix4 0 h r j : S1x8x16x128.Idx) :=
    ⟨y 1, y 2, y 3, by blk_ext⟩
  rw [emb11 t h r j]
  blk_simp
  rw [after0_11]
  unfold Gen.outsAt0
  frame_out
  canon_tiles x hx
  · exact q_piece m c t x h r j _ 1408 (by have e : h.val = 7 + (x 1).val := hx1; omega) hx2 hx3 (by omega) (Block.pay24_at _ _ _)
  · exact q_piece m c t x h r j _ 1280 (by have e : h.val = 6 + (x 1).val := hx1; omega) hx2 hx3 (by omega) (Block.pay23_at _ _ _)
  · exact q_piece m c t x h r j _ 1152 (by have e : h.val = 5 + (x 1).val := hx1; omega) hx2 hx3 (by omega) (Block.pay21_at _ _ _)
  · exact q_piece m c t x h r j _ 1024 (by have e : h.val = 4 + (x 1).val := hx1; omega) hx2 hx3 (by omega) (Block.pay20_at _ _ _)
  · exact q_piece m c t x h r j _ 896 (by have e : h.val = 3 + (x 1).val := hx1; omega) hx2 hx3 (by omega) (Block.pay18_at _ _ _)
  · exact q_piece m c t x h r j _ 768 (by have e : h.val = 2 + (x 1).val := hx1; omega) hx2 hx3 (by omega) (Block.pay17_at _ _ _)
  · exact q_piece m c t x h r j _ 640 (by have e : h.val = 1 + (x 1).val := hx1; omega) hx2 hx3 (by omega) (Block.pay13_at _ _ _)
  · exact q_piece m c t x h r j _ 512 (by have e : h.val = (x 1).val := hx1; omega) hx2 hx3 (by omega) (Block.pay12_at _ _ _ _ _)

theorem final12 : (dats m 0 c).arrAt 12 (cfgs 0).N = out12 m c := by
  refine (dats m 0 c).arrAt_eq_of_covers 12 _ (by decide +kernel) fun t hf y => ?_
  obtain ⟨r, j, rfl⟩ : ∃ (r : Fin 16) (j : Fin 256), y = (ix3 0 r j : S1x16x256.Idx) := ⟨y 1, y 2, by blk_ext⟩
  rw [emb12 t r j]
  blk_simp
  rw [after0_12]
  unfold Gen.outsAt0
  frame_out
  canon_tiles x hx
  · exact k_piece m c t x r j _ 128 (by omega) (by decide) hx1 hx2 (Block.pay28_at _ _ _)
  · exact k_piece m c t x r j _ 0 (by omega) (by decide) hx1 (by have e : j.val = (x 2).val := hx2; omega) (Block.pay25_at _ _ _)

theorem final15 : (dats m 0 c).arrAt 15 (cfgs 0).N = out15 m c := by
  refine (dats m 0 c).arrAt_eq_of_covers 15 _ (by decide +kernel) fun t hf y => ?_
  obtain ⟨r, j, rfl⟩ : ∃ (r : Fin 16) (j : Fin 128), y = (ix3 0 r j : S1x16x128.Idx) := ⟨y 1, y 2, by blk_ext⟩
  rw [emb15 t r j]
  blk_simp
  rw [after0_15]
  unfold Gen.outsAt0
  frame_out
  exact kiw_point m c t r j

end Cert.KernelIdeal.Arr
end
end
-- ==== Proof.ProjPool.lean ====
module
public import proofs.«01_k».proof.Proof.ProjArray
public import Idealize.ShloMosaic.Lib.Claim
@[expose] public section
set_option maxRecDepth 16384
noncomputable section
namespace Cert.KernelIdeal.Arr
open Idealize.ShloMosaic Idealize.ShloMosaic.TcCoe Idealize.SL.Sem
open Idealize.ShloMosaic.Pipeline (Dat)
open Cert.KernelIdeal Cert.KernelIdeal.Gen Cert.Finish Cert.Proj

variable (m : (ℓ : Loc nD τ sig) → Buf (Elt Ideal) ℓ) (c : Dev nD)

/-- The first position a step's rows have is 4096. -/
theorem first_pos : ∀ t : Fin cfg0.N,
    Scalar.addi 4096#32 (Scalar.muli (BitVec.ofNat 32 (grid0.coords t 1).val) 16#32) = 4096#32 :=
  (by decide +kernel : ∀ t : Fin grid0.N, _)

/-- The weights of group `e`. -/
theorem wt_at (t : Fin cfg0.N) (e : Fin 4) (inb : ∀ a, (![e.val, 0, 0] : Fin 3 → ℕ) a + (![1, 128, 256] : Fin 3 → ℕ) a ≤ S4x128x256.size a)
    (x : Fin 128) (j : Fin 256) :
    (View.ld (iblk m c 8 t : FVec Ideal S4x128x256 .bf16) (Rect.unit ![e.val, 0, 0] ![1, 128, 256] inb) : FVec Ideal S1x128x256 .bf16) (ix3 0 x j)
      = WPA m c (ix4 0 e x j) := by
  refine Eq.trans ?_ (read8 m c t e x j)
  refine congrArg (iblk m c 8 t : FVec Ideal S4x128x256 .bf16) (funext fun a => Fin.ext ?_)
  fin_cases a
  · show e.val + 1 * 0 = e.val
    omega
  · show 0 + 1 * x.val = x.val
    omega
  · show 0 + 1 * j.val = j.val
    omega

theorem two_at (t : Fin cfg0.N) (r : Fin 16) (x : Fin 512) :
    Scratch.two (k0_pay79 (F := Ideal) (iblk m c 3 t)) (k0_pay80 (F := Ideal) (P m c t)) (32 + r.val) x
      = ∑ i : Fin 2, ext (MX m c (ent t)) (MG m c) (MW m c) (MSP m c (ent t)) (15 - i.val + r.val) x :=
  Scratch.two_sum _ _ (fun i => ext (MX m c (ent t)) (MG m c) (MW m c) (MSP m c (ent t)) (15 - i + r.val) x) x r.val (rows_at m c t r x)
theorem four_at (t : Fin cfg0.N) (r : Fin 16) (x : Fin 512) :
    Scratch.four (k0_pay79 (F := Ideal) (iblk m c 3 t)) (k0_pay80 (F := Ideal) (P m c t)) (32 + r.val) x
      = ∑ i : Fin 4, ext (MX m c (ent t)) (MG m c) (MW m c) (MSP m c (ent t)) (15 - i.val + r.val) x :=
  Scratch.four_sum _ _ (fun i => ext (MX m c (ent t)) (MG m c) (MW m c) (MSP m c (ent t)) (15 - i + r.val) x) x r.val (rows_at m c t r x)
theorem eight_at (t : Fin cfg0.N) (r : Fin 16) (x : Fin 512) :
    Scratch.eight (k0_pay79 (F := Ideal) (iblk m c 3 t)) (k0_pay80 (F := Ideal) (P m c t)) (32 + r.val) x
      = ∑ i : Fin 8, ext (MX m c (ent t)) (MG m c) (MW m c) (MSP m c (ent t)) (15 - i.val + r.val) x :=
  Scratch.eight_sum _ _ (fun i => ext (MX m c (ent t)) (MG m c) (MW m c) (MSP m c (ent t)) (15 - i + r.val) x) x r.val (rows_at m c t r x)

theorem pay85_at (a b : FVec Ideal S16x512 .f32) (r : Fin 16) (x : Fin 512) :
    k0_pay85 (F := Ideal) a b (ix2 r x) = a (ix2 r x) + b (ix2 r x) := by pointwise [k0_pay85]

/-- The sixteens are the eights and the eights eight rows above. -/
theorem sixteen_at (t : Fin cfg0.N) (r : Fin 16) (x : Fin 512) :
    k0_pay85 (F := Ideal)
        (fun j : S16x512.Idx => Scratch.eight (k0_pay79 (F := Ideal) (iblk m c 3 t)) (k0_pay80 (F := Ideal) (P m c t)) (32 + (j 0).val) (j 1))
        (fun j : S16x512.Idx => Scratch.eight (k0_pay79 (F := Ideal) (iblk m c 3 t)) (k0_pay80 (F := Ideal) (P m c t)) (24 + (j 0).val) (j 1))
        (ix2 r x)
      = ∑ i : Fin 16, ext (MX m c (ent t)) (MG m c) (MW m c) (MSP m c (ent t)) (15 - i.val + r.val) x := by
  refine (pay85_at _ _ r x).trans (Eq.trans ?_ (Scratch.sixteen_sum _ _
    (fun i => ext (MX m c (ent t)) (MG m c) (MW m c) (MSP m c (ent t)) (15 - i + r.val) x) x r.val (rows_at m c t r x)))
  unfold Scratch.sixteen
  rw [show 32 + r.val - 8 = 24 + r.val by omega]
  rfl

/-- The pooling branch's row from its four windows' sums. -/
theorem pa_core (t : Fin cfg0.N) (r : Fin 16) (j : Fin 1024) (q2 q4 q8 q16 : FVec Ideal S16x512 .f32)
    (w0 w1 w2 w3 : FVec Ideal S1x128x256 .bf16) (ps : FVec Ideal S1x1024 .f32)
    (h2 : ∀ x : Fin 512, q2 (ix2 r x) = ∑ i : Fin 2, ext (MX m c (ent t)) (MG m c) (MW m c) (MSP m c (ent t)) (15 - i.val + r.val) x)
    (h4 : ∀ x : Fin 512, q4 (ix2 r x) = ∑ i : Fin 4, ext (MX m c (ent t)) (MG m c) (MW m c) (MSP m c (ent t)) (15 - i.val + r.val) x)
    (h8 : ∀ x : Fin 512, q8 (ix2 r x) = ∑ i : Fin 8, ext (MX m c (ent t)) (MG m c) (MW m c) (MSP m c (ent t)) (15 - i.val + r.val) x)
    (h16 : ∀ x : Fin 512, q16 (ix2 r x) = ∑ i : Fin 16, ext (MX m c (ent t)) (MG m c) (MW m c) (MSP m c (ent t)) (15 - i.val + r.val) x)
    (e0 : ∀ x l, w0 (ix3 0 x l) = WPA m c (ix4 0 0 x l)) (e1 : ∀ x l, w1 (ix3 0 x l) = WPA m c (ix4 0 1 x l))
    (e2 : ∀ x l, w2 (ix3 0 x l) = WPA m c (ix4 0 2 x l)) (e3 : ∀ x l, w3 (ix3 0 x l) = WPA m c (ix4 0 3 x l))
    (eps : ps (ix2 0 j) = PSA m c (ix2 0 j)) :
    k0_pay91 (F := Ideal) (P m c t) (k0_pay76 (P m c t)) q16 (k0_pay87 4096#32 (iota .tc S16x128 32 [0] iota_S16x128_d0_w32))
        (k0_pay88 (k0_pay76 (P m c t)) q2 4096#32 (iota .tc S16x128 32 [0] iota_S16x128_d0_w32) w0)
        (k0_pay89 (k0_pay76 (P m c t)) q4 4096#32 (iota .tc S16x128 32 [0] iota_S16x128_d0_w32) w1)
        (k0_pay90 (k0_pay76 (P m c t)) q8 4096#32 (iota .tc S16x128 32 [0] iota_S16x128_d0_w32) w2) 1#32 w3 ps (ix3 0 r j)
      = paOut (MX m c (ent t)) (MG m c) (MW m c) (MSP m c (ent t)) (MWP m c) (MPS m c) r j := by
  refine (Block.pay91_at _ _ _ _ _ _ _ _ _ r j).trans ?_
  unfold paOut
  refine congrArg₂ (fun x y : EReal => x * y) ?_ (congrArg₂ (fun x y : EReal => x * y) ?_ eps)
  · refine congrArg sigm (Eq.trans ?_ (P_high m c t r (2632 + j.val) (by omega) (by omega)))
    exact congrArg (P m c t) (by blk_ext)
  unfold mix
  have hu := pay76_at (P m c t) r
  by_cases h0 : j.val < 256
  · rw [dif_pos h0, dif_pos h0, Block.pay88_at]
    exact group_pooled m c t _ _ 2 0 (by omega) _ _ rfl 0 r _ hu h2 fun x => e0 x _
  rw [dif_neg h0, dif_neg h0]
  by_cases h1 : j.val - 256 < 256
  · rw [dif_pos h1, dif_pos h1, Block.pay89_at]
    exact group_pooled m c t _ _ 4 128 (by omega) _ _ rfl 1 r _ hu h4 fun x => e1 x _
  rw [dif_neg h1, dif_neg h1]
  by_cases h3 : j.val - 256 - 256 < 256
  · rw [dif_pos h3, dif_pos h3, Block.pay90_at]
    exact group_pooled m c t _ _ 8 256 (by omega) _ _ rfl 2 r _ hu h8 fun x => e2 x _
  rw [dif_neg h3, dif_neg h3]
  exact group_pooled m c t _ _ 16 384 (by omega) _ _ rfl 3 r _ hu h16 fun x => e3 x _

set_option maxHeartbeats 1600000 in
theorem final16 : (dats m 0 c).arrAt 16 (cfgs 0).N = out16 m c := by
  refine (dats m 0 c).arrAt_eq_of_covers 16 _ (by decide +kernel) fun t hf y => ?_
  obtain ⟨r, j, rfl⟩ : ∃ (r : Fin 16) (j : Fin 1024), y = (ix3 0 r j : S1x16x1024.Idx) := ⟨y 1, y 2, by blk_ext⟩
  rw [emb16 t r j]
  blk_simp
  rw [after0_16]
  unfold Gen.outsAt0
  frame_out
  rw [Scratch.load_eight inb_S48x512_S16x512_32_0 (iblk m c 3 t) (P m c t) (by omega) (by omega),
    Scratch.load_eight inb_S48x512_S16x512_24_0 (iblk m c 3 t) (P m c t) (by omega) (by omega),
    Scratch.load_four inb_S48x512_S16x512_32_0 (iblk m c 3 t) (P m c t) (by omega) (by omega),
    Scratch.load_two inb_S48x512_S16x512_32_0 (iblk m c 3 t) (P m c t) (by omega) (by omega), first_pos t]
  exact pa_core m c t r j _ _ _ _ _ _ _ _ _ (two_at m c t r) (four_at m c t r) (eight_at m c t r) (sixteen_at m c t r)
    (wt_at m c t 0 _) (wt_at m c t 1 _) (wt_at m c t 2 _) (wt_at m c t 3 _) (read9 m c t j)

end Cert.KernelIdeal.Arr
end
end
-- ==== Proof.ProjRef.lean ====
module
public import proofs.«01_k».proof.Proof.Gen.ReferenceIdeal.Read
public import proofs.«01_k».proof.Proof.ProjRow
public import Idealize.ShloMosaic.Lib.Pointwise
public import Idealize.ShloMosaic.Lib.Pipeline.ValueKit
@[expose] public section
set_option maxRecDepth 16384
noncomputable section
namespace Cert.ReferenceIdeal.At
open Idealize.ShloMosaic Idealize.ShloMosaic.TcCoe Idealize.SL.Sem
open Cert.ReferenceIdeal Cert.ReferenceIdeal.Gen Cert.ReferenceIdeal.Read Cert.Finish Cert.Proj

variable (x : FVec Ideal S32x16x1024 .f32) (sp : FVec Ideal S1x32x15x512 .f32) (w : FVec Ideal S1x1024x4680 .f32)
  (wp : FVec Ideal S1x4x128x256 .f32) (ps g : FVec Ideal S1x1024 .f32)

/-- The reference's projected row at column `c`. -/
theorem v18_at (b : Fin 32) (t : Fin 16) (c : Fin 4680) :
    val_main_v18 (F := Ideal) x w g (ix3 b t c)
      = rowMul (rms (fun k => x (ix3 b t k)) (fun k => g (ix2 0 k))) (fun k l => w (ix3 0 k l)) c := by
  pointwise [val_main_v3, val_main_v4, val_main_v5, val_main_v6, val_main_v7,
    val_main_v8, val_main_v9, val_main_v10, val_main_v11, val_main_v12, val_main_v13, val_main_v14, val_main_v15,
    val_main_v16, val_main_v17, val_main_v18, val_main_cst, val_main_cst_0, val_main_cst_1]
  simp only [rms, rowMul, zero_add, dLen, eps]

/-- The batch entry `b` of the arguments. -/
abbrev X (b : Fin 32) : Fin 16 → Fin 1024 → EReal := fun t k => x (ix3 b t k)
abbrev SP (b : Fin 32) : Fin 15 → Fin 512 → EReal := fun t k => sp (ix4 0 b t k)
abbrev W : Fin 1024 → Fin 4680 → EReal := fun k l => w (ix3 0 k l)
abbrev G : Fin 1024 → EReal := fun k => g (ix2 0 k)
abbrev WP : Fin 4 → Fin 128 → Fin 256 → EReal := fun e k l => wp (ix4 0 e k l)
abbrev PS : Fin 1024 → EReal := fun j => ps (ix2 0 j)

theorem v18_col (b : Fin 32) (t : Fin 16) (c : Fin 4680) :
    val_main_v18 (F := Ideal) x w g (ix3 b t c) = col (X x b) (G g) (W w) t c := v18_at x w g b t c

theorem u_at (b : Fin 32) (t : Fin 16) (c : Fin 512) :
    val_main_v19 (F := Ideal) x w g (ix3 b t c) = col (X x b) (G g) (W w) t ⟨c.val, by omega⟩ := by
  rw [← v18_col]
  pointwise [val_main_v19]

theorem v_at (b : Fin 32) (t : Fin 16) (c : Fin 256) :
    val_main_v22 (F := Ideal) x w g (ix3 b t c) = col (X x b) (G g) (W w) t ⟨1792 + c.val, by omega⟩ := by
  rw [← v18_col]
  pointwise [val_main_v22]

theorem v62_at (b : Fin 32) (t : Fin 16) (h : Fin 8) (l : Fin 128) :
    val_main_v62 (F := Ideal) x w g (ix4 b t h l)
      = turn 16 (by omega) (fun i => val_main_v18 (F := Ideal) x w g (ix3 b t ⟨512 + (h.val * 128 + i.val), by omega⟩))
          (angle 1098907648#32 t.val) l := by
  simp only [turn, angle, posn, Nat.reduceAdd]
  pointwise [val_main_v0, val_main_v1, val_main_v2, val_main_c, val_main_v20, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_cst_2, val_main_cst_3]

theorem v97_at (b : Fin 32) (t : Fin 16) (h : Fin 2) (l : Fin 128) :
    val_main_v97 (F := Ideal) x w g (ix4 b t h l)
      = turn 16 (by omega) (fun i => val_main_v18 (F := Ideal) x w g (ix3 b t ⟨1536 + (h.val * 128 + i.val), by omega⟩))
          (angle 1098907648#32 t.val) l := by
  simp only [turn, angle, posn, Nat.reduceAdd]
  pointwise [val_main_v0, val_main_v1, val_main_v2, val_main_c, val_main_v21, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_cst_4, val_main_cst_5]

theorem v132_at (b : Fin 32) (t : Fin 16) (l : Fin 64) :
    val_main_v132 (F := Ideal) x w g (ix4 b t 0 l)
      = turn 8 (by omega) (fun i => val_main_v18 (F := Ideal) x w g (ix3 b t ⟨2560 + i.val, by omega⟩))
          (angle 1090519040#32 t.val) ⟨l.val, by omega⟩ := by
  simp only [turn, angle, posn, Nat.reduceAdd]
  pointwise [val_main_v0, val_main_v1, val_main_v2, val_main_c, val_main_v24, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_cst_6, val_main_cst_7]

theorem sgb_at (b : Fin 32) (t : Fin 16) (j : Fin 1024) :
    val_main_v266 (F := Ideal) x w g (ix3 b t j) = sgbOut (X x b) (G g) (W w) t j := by
  unfold sgbOut
  simp only [sigm]
  rw [← v18_col]
  pointwise [val_main_v261, val_main_v262, val_main_v263, val_main_v264, val_main_v265, val_main_v266, val_main_cst_21, val_main_cst_22, val_main_v27]

/-- A sum over `w` places written out. -/
theorem sum_two (F : ℕ → EReal) : ∑ i : Fin 2, F i.val = F 0 + F 1 := by
  rw [← Finset.sum_range F]
  simp only [Finset.sum_range_succ, Finset.sum_range_zero, zero_add]
theorem sum_four (F : ℕ → EReal) : ∑ i : Fin 4, F i.val = F 0 + F 1 + F 2 + F 3 := by
  rw [← Finset.sum_range F]
  simp only [Finset.sum_range_succ, Finset.sum_range_zero, zero_add]
theorem sum_eight (F : ℕ → EReal) : ∑ i : Fin 8, F i.val = F 0 + F 1 + F 2 + F 3 + F 4 + F 5 + F 6 + F 7 := by
  rw [← Finset.sum_range F]
  simp only [Finset.sum_range_succ, Finset.sum_range_zero, zero_add]
theorem sum_sixteen (F : ℕ → EReal) : ∑ i : Fin 16, F i.val = F 0 + F 1 + F 2 + F 3 + F 4 + F 5 + F 6 + F 7 + F 8 + F 9
    + F 10 + F 11 + F 12 + F 13 + F 14 + F 15 := by
  rw [← Finset.sum_range F]
  simp only [Finset.sum_range_succ, Finset.sum_range_zero, zero_add]

theorem v150_at (b : Fin 32) (t : Fin 16) (k : Fin 128) :
    val_main_v150 (F := Ideal) x sp w g (ix3 b t k) = pooled (X x b) (G g) (W w) (SP sp b) 2 0 (by omega) t k := by
  unfold pooled cover
  rw [sum_two fun i => ext (X x b) (G g) (W w) (SP sp b) (15 - i + t.val) ⟨0 + k.val, by omega⟩]
  simp only [Nat.reduceSub, Nat.sub_zero, ext_self, posn]
  simp (disch := omega) only [ext_eq]
  simp only [← v18_col]
  pointwise [val_main_v0, val_main_v1, val_main_v2, val_main_c, val_main_v19, val_main_v134, val_main_v137, val_main_v138, val_main_v139, val_main_v140, val_main_v141, val_main_v142, val_main_v143, val_main_v144, val_main_v145, val_main_v146, val_main_v147, val_main_v148, val_main_v149, val_main_v150, val_main_c_8, val_main_c_9]

theorem v167_at (b : Fin 32) (t : Fin 16) (k : Fin 128) :
    val_main_v167 (F := Ideal) x sp w g (ix3 b t k) = pooled (X x b) (G g) (W w) (SP sp b) 4 128 (by omega) t k := by
  unfold pooled cover
  rw [sum_four fun i => ext (X x b) (G g) (W w) (SP sp b) (15 - i + t.val) ⟨128 + k.val, by omega⟩]
  simp only [Nat.reduceSub, Nat.sub_zero, ext_self, posn]
  simp (disch := omega) only [ext_eq]
  simp only [← v18_col]
  pointwise [val_main_v0, val_main_v1, val_main_v2, val_main_c, val_main_v19, val_main_v134, val_main_v137, val_main_v151, val_main_v152, val_main_v153, val_main_v154, val_main_v155, val_main_v156, val_main_v157, val_main_v158, val_main_v159, val_main_v160, val_main_v161, val_main_v162, val_main_v163, val_main_v164, val_main_v165, val_main_v166, val_main_v167, val_main_c_10, val_main_c_11]

theorem v192_at (b : Fin 32) (t : Fin 16) (k : Fin 128) :
    val_main_v192 (F := Ideal) x sp w g (ix3 b t k) = pooled (X x b) (G g) (W w) (SP sp b) 8 256 (by omega) t k := by
  unfold pooled cover
  rw [sum_eight fun i => ext (X x b) (G g) (W w) (SP sp b) (15 - i + t.val) ⟨256 + k.val, by omega⟩]
  simp only [Nat.reduceSub, Nat.sub_zero, ext_self, posn]
  simp (disch := omega) only [ext_eq]
  simp only [← v18_col]
  pointwise [val_main_v0, val_main_v1, val_main_v2, val_main_c, val_main_v19, val_main_v134, val_main_v137, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_c_12, val_main_c_13]

theorem v233_at (b : Fin 32) (t : Fin 16) (k : Fin 128) :
    val_main_v233 (F := Ideal) x sp w g (ix3 b t k) = pooled (X x b) (G g) (W w) (SP sp b) 16 384 (by omega) t k := by
  unfold pooled cover
  rw [sum_sixteen fun i => ext (X x b) (G g) (W w) (SP sp b) (15 - i + t.val) ⟨384 + k.val, by omega⟩]
  simp only [Nat.reduceSub, Nat.sub_zero, ext_self, posn]
  simp (disch := omega) only [ext_eq]
  simp only [← v18_col]
  pointwise [val_main_v0, val_main_v1, val_main_v2, val_main_c, val_main_v19, val_main_v134, val_main_v137, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225, val_main_v226, val_main_v227, val_main_v228, val_main_v229, val_main_v230, val_main_v231, val_main_v232, val_main_v233, val_main_c_14, val_main_c_15]

theorem q_at (b : Fin 32) (h : Fin 8) (t : Fin 16) (l : Fin 128) :
    val_main_v248 (F := Ideal) x w g (ix4 b h t l) = qOut (X x b) (G g) (W w) h t l := by
  unfold qOut
  simp only [← v18_col]
  rw [← v62_at]
  pointwise [val_main_v245, val_main_v246, val_main_v247, val_main_v248, val_main_cst_16]

theorem k_at (b : Fin 32) (t : Fin 16) (c : Fin 256) :
    val_main_v249 (F := Ideal) x w g (ix3 b t c) = kOut (X x b) (G g) (W w) t c := by
  unfold kOut
  simp only [← v18_col]
  refine Eq.trans ?_ (v97_at x w g b t ⟨c.val / 128, by omega⟩ ⟨c.val % 128, by omega⟩)
  pointwise [val_main_v249]

theorem kiw_at (b : Fin 32) (t : Fin 16) (l : Fin 128) :
    val_main_v253 (F := Ideal) x w g (ix3 b t l) = kiwOut (X x b) (G g) (W w) t l := by
  unfold kiwOut
  simp only [← v18_col]
  pointwise [val_main_v250, val_main_v251, val_main_v252, val_main_v253, val_main_v133, val_main_v25, val_main_cst_17, val_main_cst_18]
  by_cases h : l.val < 64
  · rw [dif_pos h, dif_pos h, v132_at]
  · rw [dif_neg h, dif_neg h]

/-- The pooled row times its group's weights, for one of the four groups. -/
theorem mix_at (b : Fin 32) (t : Fin 16) (j : Fin 1024) :
    val_main_v244 (F := Ideal) x sp w wp ps g (ix3 b t j)
      = mix (X x b) (G g) (W w) (SP sp b) (WP wp) t j * PS ps j := by
  unfold mix rowMul
  simp only [← v150_at, ← v167_at, ← v192_at, ← v233_at]
  pointwise [val_main_v234, val_main_v235, val_main_v236, val_main_v237, val_main_v238, val_main_v239, val_main_v240, val_main_v241, val_main_v242, val_main_v243, val_main_v244, val_main_v135, val_main_v136]
  congr 1
  by_cases h0 : j.val < 256
  · rw [dif_pos h0]
    refine Finset.sum_congr rfl fun a _ => ?_
    rw [dif_pos (by omega), mul_comm]
    congr 2
    blk_ext
  rw [dif_neg h0]
  by_cases h1 : j.val - 256 < 256
  · rw [dif_pos h1]
    refine Finset.sum_congr rfl fun a _ => ?_
    rw [dif_neg (by omega), dif_pos (by omega), mul_comm]
    congr 2
    blk_ext
  rw [dif_neg h1]
  by_cases h2 : j.val - 256 - 256 < 256
  · rw [dif_pos h2]
    refine Finset.sum_congr rfl fun a _ => ?_
    rw [dif_neg (by omega), dif_neg (by omega), dif_pos (by omega), mul_comm]
    congr 2
    blk_ext
  · rw [dif_neg h2]
    refine Finset.sum_congr rfl fun a _ => ?_
    rw [dif_neg (by omega), dif_neg (by omega), dif_neg (by omega), mul_comm]
    congr 2
    blk_ext

theorem pa_at (b : Fin 32) (t : Fin 16) (j : Fin 1024) :
    val_main_v260 (F := Ideal) x sp w wp ps g (ix3 b t j)
      = paOut (X x b) (G g) (W w) (SP sp b) (WP wp) (PS ps) t j := by
  unfold paOut
  rw [← mix_at]
  simp only [sigm]
  rw [← v18_col]
  pointwise [val_main_v254, val_main_v255, val_main_v256, val_main_v257, val_main_v258, val_main_v259, val_main_v260, val_main_cst_19, val_main_cst_20, val_main_v26]

end Cert.ReferenceIdeal.At
end
end
-- ==== Proof.ProjClaim.lean ====
module
public import proofs.«01_k».proof.Defs
public import proofs.«01_k».proof.Proof.ProjPool
public import proofs.«01_k».proof.Proof.ProjRef
public import proofs.«01_k».proof.Proof.Gen.ReferenceIdeal.Run
public import Idealize.ShloMosaic.Lib.Claim
public import Idealize.ShloMosaic.Adequacy
public import Idealize.ShloMosaic.Init
@[expose] public section
set_option maxRecDepth 16384
noncomputable section
namespace Cert.Proof
open Idealize.ShloMosaic Idealize.SL.Sem

set_option maxHeartbeats 2000000 in
/-- The projection call computes the reference's projections, rotations, pooling branch and gates: each of its seven
    arrays is the reference's on equal arguments. -/
theorem proj_value : Cert.algebraic_KernelIdeal_ReferenceIdeal := by
  pair_intro
  · run_from Cert.KernelIdeal.Value.run_blocks m g
  · run_from Cert.ReferenceIdeal.Value.run m' g'
    · obtain ⟨h0, h1, h2, h3, h4, h5⟩ := hagree c
      rw [Cert.ReferenceIdeal.Read.val_main_v19_eq (StableHlo.launchContents m' c)]
      refine Eq.trans ?_ (Cert.KernelIdeal.Arr.final10 m c).symm
      show Cert.ReferenceIdeal.Read.val_main_v19 (F := Ideal) (m' (c.tc.loc Cert.ReferenceIdeal.main_arg0)) (m' (c.tc.loc Cert.ReferenceIdeal.main_arg2)) (m' (c.tc.loc Cert.ReferenceIdeal.main_arg5)) = _
      rw [h0, h2, h5]
      funext i
      obtain ⟨b, t, j, rfl⟩ : ∃ (b : Fin 32) (t : Fin 16) (j : Fin 512), i = (ix3 b t j : Cert.KernelIdeal.S32x16x512.Idx) := ⟨i 0, i 1, i 2, eq_ix3 i⟩
      exact Cert.ReferenceIdeal.At.u_at _ _ _ b t j
    · obtain ⟨h0, h1, h2, h3, h4, h5⟩ := hagree c
      rw [Cert.ReferenceIdeal.Read.val_main_v248_eq (StableHlo.launchContents m' c)]
      refine Eq.trans ?_ (Cert.KernelIdeal.Arr.final11 m c).symm
      show Cert.ReferenceIdeal.Read.val_main_v248 (F := Ideal) (m' (c.tc.loc Cert.ReferenceIdeal.main_arg0)) (m' (c.tc.loc Cert.ReferenceIdeal.main_arg2)) (m' (c.tc.loc Cert.ReferenceIdeal.main_arg5)) = _
      rw [h0, h2, h5]
      funext i
      obtain ⟨b, h, t, j, rfl⟩ : ∃ (b : Fin 32) (h : Fin 8) (t : Fin 16) (j : Fin 128), i = (ix4 b h t j : Cert.KernelIdeal.S32x8x16x128.Idx) := ⟨i 0, i 1, i 2, i 3, eq_ix4 i⟩
      exact Cert.ReferenceIdeal.At.q_at _ _ _ b h t j
    · obtain ⟨h0, h1, h2, h3, h4, h5⟩ := hagree c
      rw [Cert.ReferenceIdeal.Read.val_main_v249_eq (StableHlo.launchContents m' c)]
      refine Eq.trans ?_ (Cert.KernelIdeal.Arr.final12 m c).symm
      show Cert.ReferenceIdeal.Read.val_main_v249 (F := Ideal) (m' (c.tc.loc Cert.ReferenceIdeal.main_arg0)) (m' (c.tc.loc Cert.ReferenceIdeal.main_arg2)) (m' (c.tc.loc Cert.ReferenceIdeal.main_arg5)) = _
      rw [h0, h2, h5]
      funext i
      obtain ⟨b, t, j, rfl⟩ : ∃ (b : Fin 32) (t : Fin 16) (j : Fin 256), i = (ix3 b t j : Cert.KernelIdeal.S32x16x256.Idx) := ⟨i 0, i 1, i 2, eq_ix3 i⟩
      exact Cert.ReferenceIdeal.At.k_at _ _ _ b t j
    · obtain ⟨h0, h1, h2, h3, h4, h5⟩ := hagree c
      rw [Cert.ReferenceIdeal.Read.val_main_v22_eq (StableHlo.launchContents m' c)]
      refine Eq.trans ?_ (Cert.KernelIdeal.Arr.final13 m c).symm
      show Cert.ReferenceIdeal.Read.val_main_v22 (F := Ideal) (m' (c.tc.loc Cert.ReferenceIdeal.main_arg0)) (m' (c.tc.loc Cert.ReferenceIdeal.main_arg2)) (m' (c.tc.loc Cert.ReferenceIdeal.main_arg5)) = _
      rw [h0, h2, h5]
      funext i
      obtain ⟨b, t, j, rfl⟩ : ∃ (b : Fin 32) (t : Fin 16) (j : Fin 256), i = (ix3 b t j : Cert.KernelIdeal.S32x16x256.Idx) := ⟨i 0, i 1, i 2, eq_ix3 i⟩
      exact Cert.ReferenceIdeal.At.v_at _ _ _ b t j
    · obtain ⟨h0, h1, h2, h3, h4, h5⟩ := hagree c
      rw [Cert.ReferenceIdeal.Read.val_main_v253_eq (StableHlo.launchContents m' c)]
      refine Eq.trans ?_ (Cert.KernelIdeal.Arr.final15 m c).symm
      show Cert.ReferenceIdeal.Read.val_main_v253 (F := Ideal) (m' (c.tc.loc Cert.ReferenceIdeal.main_arg0)) (m' (c.tc.loc Cert.ReferenceIdeal.main_arg2)) (m' (c.tc.loc Cert.ReferenceIdeal.main_arg5)) = _
      rw [h0, h2, h5]
      funext i
      obtain ⟨b, t, j, rfl⟩ : ∃ (b : Fin 32) (t : Fin 16) (j : Fin 128), i = (ix3 b t j : Cert.KernelIdeal.S32x16x128.Idx) := ⟨i 0, i 1, i 2, eq_ix3 i⟩
      exact Cert.ReferenceIdeal.At.kiw_at _ _ _ b t j
    · obtain ⟨h0, h1, h2, h3, h4, h5⟩ := hagree c
      rw [← h3, ← h4]
      refine (Cert.ReferenceIdeal.Read.val_main_v260_eq (F := Ideal) (StableHlo.launchContents m' c)).trans ?_
      refine Eq.trans ?_ (Cert.KernelIdeal.Arr.final16 m c).symm
      show Cert.ReferenceIdeal.Read.val_main_v260 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) = _
      rw [h0, h1, h2, h3, h4, h5]
      funext i
      obtain ⟨b, t, j, rfl⟩ : ∃ (b : Fin 32) (t : Fin 16) (j : Fin 1024), i = (ix3 b t j : Cert.KernelIdeal.S32x16x1024.Idx) := ⟨i 0, i 1, i 2, eq_ix3 i⟩
      exact Cert.ReferenceIdeal.At.pa_at _ _ _ _ _ _ b t j
    · obtain ⟨h0, h1, h2, h3, h4, h5⟩ := hagree c
      rw [Cert.ReferenceIdeal.Read.val_main_v266_eq (StableHlo.launchContents m' c)]
      refine Eq.trans ?_ (Cert.KernelIdeal.Arr.final17 m c).symm
      show Cert.ReferenceIdeal.Read.val_main_v266 (F := Ideal) (m' (c.tc.loc Cert.ReferenceIdeal.main_arg0)) (m' (c.tc.loc Cert.ReferenceIdeal.main_arg2)) (m' (c.tc.loc Cert.ReferenceIdeal.main_arg5)) = _
      rw [h0, h2, h5]
      funext i
      obtain ⟨b, t, j, rfl⟩ : ∃ (b : Fin 32) (t : Fin 16) (j : Fin 1024), i = (ix3 b t j : Cert.KernelIdeal.S32x16x1024.Idx) := ⟨i 0, i 1, i 2, eq_ix3 i⟩
      exact Cert.ReferenceIdeal.At.sgb_at _ _ _ b t j

/-- The reference of the projection call runs to its end, its arguments as they were; it declares no semaphore. -/
theorem proj_ref_frame : Cert.quiescent_ReferenceIdeal := fun m g _ =>
  (θ_run Cert.ReferenceIdeal.defs _ _).mono
    (fun r h => ⟨fun c => (h c).2.2.2.2.2.2.2, sem_eq_zero_of_no_sems (by decide) r.2⟩)
    (Cert.ReferenceIdeal.Value.run m g)

end Cert.Proof
end
end
-- ==== Proof.PromptRunA.lean ====
module
public import proofs.«01_k».proof.Proof.Gen.Kernel4Ideal.Frame.Runs
@[expose] public section
set_option maxRecDepth 16384
noncomputable section
namespace Cert.Kernel4Ideal.Prompt
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen

variable {F : FTy → Type} [FloatOps F]

local notation "𝕄" => MT nD τ sig Unit (Elt F) ℕ (UR sig nD τ) ℕ

set_option maxHeartbeats 4000000 in
/-- The body at the first row block of a batch entry: what its stores leave in each result block and each scratch array, as
    stored pieces, with the proof that from its input blocks it runs to its end and leaves these. -/
noncomputable def runA (c : Dev nD) (i : grid0.Coords)
    (arg2 : Memref sig .tc .vmem S1x256x1024 .f32) (harg2 : arg2.IsWhole)
    (arg3 : Memref sig .tc .vmem S1x1024 .f32) (harg3 : arg3.IsWhole)
    (arg4 : Memref sig .tc .vmem S1024x4736 .bf16) (harg4 : arg4.IsWhole)
    (arg5 : Memref sig .tc .vmem S1x16x512 .f32) (harg5 : arg5.IsWhole)
    (arg6 : Memref sig .tc .vmem S256x128 .f32) (harg6 : arg6.IsWhole)
    (arg7 : Memref sig .tc .vmem S256x128 .f32) (harg7 : arg7.IsWhole)
    (arg8 : Memref sig .tc .vmem S256x128 .f32) (harg8 : arg8.IsWhole)
    (arg9 : Memref sig .tc .vmem S256x128 .f32) (harg9 : arg9.IsWhole)
    (arg10 : Memref sig .tc .vmem S4x128x256 .bf16) (harg10 : arg10.IsWhole)
    (arg11 : Memref sig .tc .vmem S1x1024 .f32) (harg11 : arg11.IsWhole)
    (arg12 : Memref sig .tc .vmem S1x256x512 .f32) (harg12 : arg12.IsWhole)
    (arg13 : Memref sig .tc .vmem S1x8x256x128 .bf16) (harg13 : arg13.IsWhole)
    (arg14 : Memref sig .tc .vmem S1x256x256 .f32) (harg14 : arg14.IsWhole)
    (arg15 : Memref sig .tc .vmem S1x256x256 .f32) (harg15 : arg15.IsWhole)
    (arg16 : Memref sig .tc .vmem S1x2x256x1024 .bf16) (harg16 : arg16.IsWhole)
    (arg17 : Memref sig .tc .vmem S1x256x128 .f32) (harg17 : arg17.IsWhole)
    (arg18 : Memref sig .tc .vmem S1x256x1024 .f32) (harg18 : arg18.IsWhole)
    (arg19 : Memref sig .tc .vmem S1x256x1024 .f32) (harg19 : arg19.IsWhole)
    (arg20 : Memref sig .tc .vmem S1x2x1x128x256 .bf16) (harg20 : arg20.IsWhole)
    (arg21 : Memref sig .tc .vmem S1x2x1x256x128 .bf16) (harg21 : arg21.IsWhole)
    (arg22 : Memref sig .tc .vmem S1x1x256x256 .bf16) (harg22 : arg22.IsWhole)
    (arg23 : Memref sig .tc .vmem S1x2x8x128 .f32) (harg23 : arg23.IsWhole)
    (arg24 : Memref sig .tc .vmem S288x512 .f32) (harg24 : arg24.IsWhole)
    (arg25 : Memref sig .tc .vmem S288x512 .f32) (harg25 : arg25.IsWhole)
    (arg26 : Memref sig .tc .vmem S288x512 .f32) (harg26 : arg26.IsWhole)
    (arg27 : Memref sig .tc .vmem S288x512 .f32) (harg27 : arg27.IsWhole)
    (x0 : Vec F S1x256x1024 .f32) (x1 : Vec F S1x1024 .f32) (x2 : Vec F S1024x4736 .bf16) (x3 : Vec F S1x16x512 .f32)
    (x4 : Vec F S256x128 .f32) (x5 : Vec F S256x128 .f32) (x6 : Vec F S256x128 .f32) (x7 : Vec F S256x128 .f32)
    (x8 : Vec F S4x128x256 .bf16) (x9 : Vec F S1x1024 .f32)
    (hc0 : cond0_0 i) :
    Σ' (L10 : List (View.Piece (Elt F) S1x256x512 .f32)), Σ' (L11 : List (View.Piece (Elt F) S1x8x256x128 .bf16)),
      Σ' (L12 : List (View.Piece (Elt F) S1x256x256 .f32)), Σ' (L13 : List (View.Piece (Elt F) S1x256x256 .f32)),
      Σ' (L14 : List (View.Piece (Elt F) S1x2x256x1024 .bf16)), Σ' (L15 : List (View.Piece (Elt F) S1x256x128 .f32)),
      Σ' (L16 : List (View.Piece (Elt F) S1x256x1024 .f32)), Σ' (L17 : List (View.Piece (Elt F) S1x256x1024 .f32)),
      Σ' (L18 : List (View.Piece (Elt F) S1x2x1x128x256 .bf16)), Σ' (L19 : List (View.Piece (Elt F) S1x2x1x256x128 .bf16)),
      Σ' (L20 : List (View.Piece (Elt F) S1x1x256x256 .bf16)), Σ' (L21 : List (View.Piece (Elt F) S1x2x8x128 .f32)),
      Σ' (LS0 : List (View.Piece (Elt F) S288x512 .f32)), Σ' (LT1 : List (View.Piece (Elt F) S288x512 .f32)),
      Σ' (LT2 : List (View.Piece (Elt F) S288x512 .f32)), { LT3 : List (View.Piece (Elt F) S288x512 .f32) //
      ∀ (E : Set ℕ) (K : PUnit → sProp 𝕄),
        iprop(owns (c : Thread nD τ) arg2 fullShare x0 ∗ owns (c : Thread nD τ) arg3 fullShare x1 ∗ owns (c : Thread nD τ)
          arg4 fullShare x2 ∗ owns (c : Thread nD τ) arg5 fullShare x3 ∗ owns (c : Thread nD τ) arg6 fullShare x4
          ∗ owns (c : Thread nD τ) arg7 fullShare x5 ∗ owns (c : Thread nD τ) arg8 fullShare x6 ∗ owns (c : Thread nD τ)
          arg9 fullShare x7 ∗ owns (c : Thread nD τ) arg10 fullShare x8 ∗ owns (c : Thread nD τ) arg11 fullShare x9
          ∗ (∃ d, owns (c : Thread nD τ) arg12 fullShare d) ∗ (∃ d, owns (c : Thread nD τ) arg13 fullShare d)
          ∗ (∃ d, owns (c : Thread nD τ) arg14 fullShare d) ∗ (∃ d, owns (c : Thread nD τ) arg15 fullShare d)
          ∗ (∃ d, owns (c : Thread nD τ) arg16 fullShare d) ∗ (∃ d, owns (c : Thread nD τ) arg17 fullShare d)
          ∗ (∃ d, owns (c : Thread nD τ) arg18 fullShare d) ∗ (∃ d, owns (c : Thread nD τ) arg19 fullShare d)
          ∗ (∃ d, owns (c : Thread nD τ) arg20 fullShare d) ∗ (∃ d, owns (c : Thread nD τ) arg21 fullShare d)
          ∗ (∃ d, owns (c : Thread nD τ) arg22 fullShare d) ∗ (∃ d, owns (c : Thread nD τ) arg23 fullShare d)
          ∗ (∃ d, owns (c : Thread nD τ) arg24 fullShare d) ∗ (∃ d, owns (c : Thread nD τ) arg25 fullShare d)
          ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1
              ∗ owns (c : Thread nD τ) arg4 fullShare x2 ∗ owns (c : Thread nD τ) arg5 fullShare x3 ∗ owns (c : Thread nD τ)
              arg6 fullShare x4 ∗ owns (c : Thread nD τ) arg7 fullShare x5 ∗ owns (c : Thread nD τ) arg8 fullShare x6
              ∗ owns (c : Thread nD τ) arg9 fullShare x7 ∗ owns (c : Thread nD τ) arg10 fullShare x8
              ∗ owns (c : Thread nD τ) arg11 fullShare x9 ∗ (∃ f,
              arg12.view.loc (c : Thread nD τ) ↦[arg12.view.set]{fullShare} arg12.view.writes (Elt F) f L10) ∗ (∃ f,
              arg13.view.loc (c : Thread nD τ) ↦[arg13.view.set]{fullShare} arg13.view.writes (Elt F) f L11) ∗ (∃ f,
              arg14.view.loc (c : Thread nD τ) ↦[arg14.view.set]{fullShare} arg14.view.writes (Elt F) f L12) ∗ (∃ f,
              arg15.view.loc (c : Thread nD τ) ↦[arg15.view.set]{fullShare} arg15.view.writes (Elt F) f L13) ∗ (∃ f,
              arg16.view.loc (c : Thread nD τ) ↦[arg16.view.set]{fullShare} arg16.view.writes (Elt F) f L14) ∗ (∃ f,
              arg17.view.loc (c : Thread nD τ) ↦[arg17.view.set]{fullShare} arg17.view.writes (Elt F) f L15) ∗ (∃ f,
              arg18.view.loc (c : Thread nD τ) ↦[arg18.view.set]{fullShare} arg18.view.writes (Elt F) f L16) ∗ (∃ f,
              arg19.view.loc (c : Thread nD τ) ↦[arg19.view.set]{fullShare} arg19.view.writes (Elt F) f L17) ∗ (∃ f,
              arg20.view.loc (c : Thread nD τ) ↦[arg20.view.set]{fullShare} arg20.view.writes (Elt F) f L18) ∗ (∃ f,
              arg21.view.loc (c : Thread nD τ) ↦[arg21.view.set]{fullShare} arg21.view.writes (Elt F) f L19) ∗ (∃ f,
              arg22.view.loc (c : Thread nD τ) ↦[arg22.view.set]{fullShare} arg22.view.writes (Elt F) f L20) ∗ (∃ f,
              arg23.view.loc (c : Thread nD τ) ↦[arg23.view.set]{fullShare} arg23.view.writes (Elt F) f L21) ∗ (∃ f,
              arg24.view.loc (c : Thread nD τ) ↦[arg24.view.set]{fullShare} arg24.view.writes (Elt F) f LS0) ∗ (∃ f,
              arg25.view.loc (c : Thread nD τ) ↦[arg25.view.set]{fullShare} arg25.view.writes (Elt F) f LT1) ∗ (∃ f,
              arg26.view.loc (c : Thread nD τ) ↦[arg26.view.set]{fullShare} arg26.view.writes (Elt F) f LT2) ∗ (∃ f,
              arg27.view.loc (c : Thread nD τ) ↦[arg27.view.set]{fullShare} arg27.view.writes (Elt F) f LT3)) -∗ K ⟨⟩))
          ⊢ wp frame (wpE (defs₀ (F := F)) Variants.none c none) E (cc0_proj i arg2 harg2 arg3 harg3 arg4 harg4 arg5 harg5
            arg6 harg6 arg7 harg7 arg8 harg8 arg9 harg9 arg10 harg10 arg11 harg11 arg12 harg12 arg13 harg13 arg14 harg14
            arg15 harg15 arg16 harg16 arg17 harg17 arg18 harg18 arg19 harg19 arg20 harg20 arg21 harg21 arg22 harg22
            arg23 harg23 arg24 harg24 arg25 harg25 arg26 harg26 arg27 harg27) K } := by
  refine ⟨?_, ?_, ?_, ?_, ?_, ?_, ?_, ?_, ?_, ?_, ?_, ?_, ?_, ?_, ?_, ?_, fun E K => ?run⟩
  case run =>
    simp only [cc0_proj_eq_skeleton]; unfold cc0_proj_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton, k0_part15_eq_skeleton,
      k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩,
      ⟨%f6, %hf6, H6⟩, ⟨%f7, %hf7, H7⟩, ⟨%f8, %hf8, H8⟩, ⟨%f9, %hf9, H9⟩, ⟨%d10, %f10, -, H10⟩, ⟨%d11, %f11, -, H11⟩,
      ⟨%d12, %f12, -, H12⟩, ⟨%d13, %f13, -, H13⟩, ⟨%d14, %f14, -, H14⟩, ⟨%d15, %f15, -, H15⟩, ⟨%d16, %f16, -, H16⟩,
      ⟨%d17, %f17, -, H17⟩, ⟨%d18, %f18, -, H18⟩, ⟨%d19, %f19, -, H19⟩, ⟨%d20, %f20, -, H20⟩, ⟨%d21, %f21, -, H21⟩,
      ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7; obtain rfl := harg10.eq_unread hf8
    obtain rfl := harg11.eq_unread hf9
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [HS0]; · iexists _; iexact HS0
    isplitl [HS1]; · iexists _; iexact HS1
    isplitl [HS2]; · iexists _; iexact HS2
    iexists _; iexact HS3

end Cert.Kernel4Ideal.Prompt
end
end
-- ==== Proof.PromptRunB.lean ====
module
public import proofs.«01_k».proof.Proof.PromptRunA
@[expose] public section
set_option maxRecDepth 16384
noncomputable section
namespace Cert.Kernel4Ideal.Prompt
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen

variable {F : FTy → Type} [FloatOps F]

local notation "𝕄" => MT nD τ sig Unit (Elt F) ℕ (UR sig nD τ) ℕ

set_option maxHeartbeats 4000000 in
/-- The body at a later row block: the same, the first scratch array holding `xs0` from the row block before. -/
noncomputable def runB (c : Dev nD) (i : grid0.Coords)
    (arg2 : Memref sig .tc .vmem S1x256x1024 .f32) (harg2 : arg2.IsWhole)
    (arg3 : Memref sig .tc .vmem S1x1024 .f32) (harg3 : arg3.IsWhole)
    (arg4 : Memref sig .tc .vmem S1024x4736 .bf16) (harg4 : arg4.IsWhole)
    (arg5 : Memref sig .tc .vmem S1x16x512 .f32) (harg5 : arg5.IsWhole)
    (arg6 : Memref sig .tc .vmem S256x128 .f32) (harg6 : arg6.IsWhole)
    (arg7 : Memref sig .tc .vmem S256x128 .f32) (harg7 : arg7.IsWhole)
    (arg8 : Memref sig .tc .vmem S256x128 .f32) (harg8 : arg8.IsWhole)
    (arg9 : Memref sig .tc .vmem S256x128 .f32) (harg9 : arg9.IsWhole)
    (arg10 : Memref sig .tc .vmem S4x128x256 .bf16) (harg10 : arg10.IsWhole)
    (arg11 : Memref sig .tc .vmem S1x1024 .f32) (harg11 : arg11.IsWhole)
    (arg12 : Memref sig .tc .vmem S1x256x512 .f32) (harg12 : arg12.IsWhole)
    (arg13 : Memref sig .tc .vmem S1x8x256x128 .bf16) (harg13 : arg13.IsWhole)
    (arg14 : Memref sig .tc .vmem S1x256x256 .f32) (harg14 : arg14.IsWhole)
    (arg15 : Memref sig .tc .vmem S1x256x256 .f32) (harg15 : arg15.IsWhole)
    (arg16 : Memref sig .tc .vmem S1x2x256x1024 .bf16) (harg16 : arg16.IsWhole)
    (arg17 : Memref sig .tc .vmem S1x256x128 .f32) (harg17 : arg17.IsWhole)
    (arg18 : Memref sig .tc .vmem S1x256x1024 .f32) (harg18 : arg18.IsWhole)
    (arg19 : Memref sig .tc .vmem S1x256x1024 .f32) (harg19 : arg19.IsWhole)
    (arg20 : Memref sig .tc .vmem S1x2x1x128x256 .bf16) (harg20 : arg20.IsWhole)
    (arg21 : Memref sig .tc .vmem S1x2x1x256x128 .bf16) (harg21 : arg21.IsWhole)
    (arg22 : Memref sig .tc .vmem S1x1x256x256 .bf16) (harg22 : arg22.IsWhole)
    (arg23 : Memref sig .tc .vmem S1x2x8x128 .f32) (harg23 : arg23.IsWhole)
    (arg24 : Memref sig .tc .vmem S288x512 .f32) (harg24 : arg24.IsWhole)
    (arg25 : Memref sig .tc .vmem S288x512 .f32) (harg25 : arg25.IsWhole)
    (arg26 : Memref sig .tc .vmem S288x512 .f32) (harg26 : arg26.IsWhole)
    (arg27 : Memref sig .tc .vmem S288x512 .f32) (harg27 : arg27.IsWhole)
    (x0 : Vec F S1x256x1024 .f32) (x1 : Vec F S1x1024 .f32) (x2 : Vec F S1024x4736 .bf16) (x3 : Vec F S1x16x512 .f32)
    (x4 : Vec F S256x128 .f32) (x5 : Vec F S256x128 .f32) (x6 : Vec F S256x128 .f32) (x7 : Vec F S256x128 .f32)
    (x8 : Vec F S4x128x256 .bf16) (x9 : Vec F S1x1024 .f32) (xs0 : Vec F S288x512 .f32)
    (hc0 : ¬cond0_0 i) :
    Σ' (L10 : List (View.Piece (Elt F) S1x256x512 .f32)), Σ' (L11 : List (View.Piece (Elt F) S1x8x256x128 .bf16)),
      Σ' (L12 : List (View.Piece (Elt F) S1x256x256 .f32)), Σ' (L13 : List (View.Piece (Elt F) S1x256x256 .f32)),
      Σ' (L14 : List (View.Piece (Elt F) S1x2x256x1024 .bf16)), Σ' (L15 : List (View.Piece (Elt F) S1x256x128 .f32)),
      Σ' (L16 : List (View.Piece (Elt F) S1x256x1024 .f32)), Σ' (L17 : List (View.Piece (Elt F) S1x256x1024 .f32)),
      Σ' (L18 : List (View.Piece (Elt F) S1x2x1x128x256 .bf16)), Σ' (L19 : List (View.Piece (Elt F) S1x2x1x256x128 .bf16)),
      Σ' (L20 : List (View.Piece (Elt F) S1x1x256x256 .bf16)), Σ' (L21 : List (View.Piece (Elt F) S1x2x8x128 .f32)),
      Σ' (LS0 : List (View.Piece (Elt F) S288x512 .f32)), Σ' (LT1 : List (View.Piece (Elt F) S288x512 .f32)),
      Σ' (LT2 : List (View.Piece (Elt F) S288x512 .f32)), { LT3 : List (View.Piece (Elt F) S288x512 .f32) //
      ∀ (E : Set ℕ) (K : PUnit → sProp 𝕄),
        iprop(owns (c : Thread nD τ) arg2 fullShare x0 ∗ owns (c : Thread nD τ) arg3 fullShare x1 ∗ owns (c : Thread nD τ)
          arg4 fullShare x2 ∗ owns (c : Thread nD τ) arg5 fullShare x3 ∗ owns (c : Thread nD τ) arg6 fullShare x4
          ∗ owns (c : Thread nD τ) arg7 fullShare x5 ∗ owns (c : Thread nD τ) arg8 fullShare x6 ∗ owns (c : Thread nD τ)
          arg9 fullShare x7 ∗ owns (c : Thread nD τ) arg10 fullShare x8 ∗ owns (c : Thread nD τ) arg11 fullShare x9
          ∗ (∃ d, owns (c : Thread nD τ) arg12 fullShare d) ∗ (∃ d, owns (c : Thread nD τ) arg13 fullShare d)
          ∗ (∃ d, owns (c : Thread nD τ) arg14 fullShare d) ∗ (∃ d, owns (c : Thread nD τ) arg15 fullShare d)
          ∗ (∃ d, owns (c : Thread nD τ) arg16 fullShare d) ∗ (∃ d, owns (c : Thread nD τ) arg17 fullShare d)
          ∗ (∃ d, owns (c : Thread nD τ) arg18 fullShare d) ∗ (∃ d, owns (c : Thread nD τ) arg19 fullShare d)
          ∗ (∃ d, owns (c : Thread nD τ) arg20 fullShare d) ∗ (∃ d, owns (c : Thread nD τ) arg21 fullShare d)
          ∗ (∃ d, owns (c : Thread nD τ) arg22 fullShare d) ∗ (∃ d, owns (c : Thread nD τ) arg23 fullShare d)
          ∗ owns (c : Thread nD τ) arg24 fullShare xs0 ∗ (∃ d, owns (c : Thread nD τ) arg25 fullShare d)
          ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1
              ∗ owns (c : Thread nD τ) arg4 fullShare x2 ∗ owns (c : Thread nD τ) arg5 fullShare x3 ∗ owns (c : Thread nD τ)
              arg6 fullShare x4 ∗ owns (c : Thread nD τ) arg7 fullShare x5 ∗ owns (c : Thread nD τ) arg8 fullShare x6
              ∗ owns (c : Thread nD τ) arg9 fullShare x7 ∗ owns (c : Thread nD τ) arg10 fullShare x8
              ∗ owns (c : Thread nD τ) arg11 fullShare x9 ∗ (∃ f,
              arg12.view.loc (c : Thread nD τ) ↦[arg12.view.set]{fullShare} arg12.view.writes (Elt F) f L10) ∗ (∃ f,
              arg13.view.loc (c : Thread nD τ) ↦[arg13.view.set]{fullShare} arg13.view.writes (Elt F) f L11) ∗ (∃ f,
              arg14.view.loc (c : Thread nD τ) ↦[arg14.view.set]{fullShare} arg14.view.writes (Elt F) f L12) ∗ (∃ f,
              arg15.view.loc (c : Thread nD τ) ↦[arg15.view.set]{fullShare} arg15.view.writes (Elt F) f L13) ∗ (∃ f,
              arg16.view.loc (c : Thread nD τ) ↦[arg16.view.set]{fullShare} arg16.view.writes (Elt F) f L14) ∗ (∃ f,
              arg17.view.loc (c : Thread nD τ) ↦[arg17.view.set]{fullShare} arg17.view.writes (Elt F) f L15) ∗ (∃ f,
              arg18.view.loc (c : Thread nD τ) ↦[arg18.view.set]{fullShare} arg18.view.writes (Elt F) f L16) ∗ (∃ f,
              arg19.view.loc (c : Thread nD τ) ↦[arg19.view.set]{fullShare} arg19.view.writes (Elt F) f L17) ∗ (∃ f,
              arg20.view.loc (c : Thread nD τ) ↦[arg20.view.set]{fullShare} arg20.view.writes (Elt F) f L18) ∗ (∃ f,
              arg21.view.loc (c : Thread nD τ) ↦[arg21.view.set]{fullShare} arg21.view.writes (Elt F) f L19) ∗ (∃ f,
              arg22.view.loc (c : Thread nD τ) ↦[arg22.view.set]{fullShare} arg22.view.writes (Elt F) f L20) ∗ (∃ f,
              arg23.view.loc (c : Thread nD τ) ↦[arg23.view.set]{fullShare} arg23.view.writes (Elt F) f L21)
              ∗ (arg24.view.loc (c : Thread nD τ) ↦[arg24.view.set]{fullShare}
              arg24.view.writes (Elt F) (harg24.unread xs0) LS0) ∗ (∃ f,
              arg25.view.loc (c : Thread nD τ) ↦[arg25.view.set]{fullShare} arg25.view.writes (Elt F) f LT1) ∗ (∃ f,
              arg26.view.loc (c : Thread nD τ) ↦[arg26.view.set]{fullShare} arg26.view.writes (Elt F) f LT2) ∗ (∃ f,
              arg27.view.loc (c : Thread nD τ) ↦[arg27.view.set]{fullShare} arg27.view.writes (Elt F) f LT3)) -∗ K ⟨⟩))
          ⊢ wp frame (wpE (defs₀ (F := F)) Variants.none c none) E (cc0_proj i arg2 harg2 arg3 harg3 arg4 harg4 arg5 harg5
            arg6 harg6 arg7 harg7 arg8 harg8 arg9 harg9 arg10 harg10 arg11 harg11 arg12 harg12 arg13 harg13 arg14 harg14
            arg15 harg15 arg16 harg16 arg17 harg17 arg18 harg18 arg19 harg19 arg20 harg20 arg21 harg21 arg22 harg22
            arg23 harg23 arg24 harg24 arg25 harg25 arg26 harg26 arg27 harg27) K } := by
  refine ⟨?_, ?_, ?_, ?_, ?_, ?_, ?_, ?_, ?_, ?_, ?_, ?_, ?_, ?_, ?_, ?_, fun E K => ?run⟩
  case run =>
    simp only [cc0_proj_eq_skeleton]; unfold cc0_proj_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton, k0_part15_eq_skeleton,
      k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩,
      ⟨%f6, %hf6, H6⟩, ⟨%f7, %hf7, H7⟩, ⟨%f8, %hf8, H8⟩, ⟨%f9, %hf9, H9⟩, ⟨%d10, %f10, -, H10⟩, ⟨%d11, %f11, -, H11⟩,
      ⟨%d12, %f12, -, H12⟩, ⟨%d13, %f13, -, H13⟩, ⟨%d14, %f14, -, H14⟩, ⟨%d15, %f15, -, H15⟩, ⟨%d16, %f16, -, H16⟩,
      ⟨%d17, %f17, -, H17⟩, ⟨%d18, %f18, -, H18⟩, ⟨%d19, %f19, -, H19⟩, ⟨%d20, %f20, -, H20⟩, ⟨%d21, %f21, -, H21⟩,
      ⟨%fs0, %hfs0, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7; obtain rfl := harg10.eq_unread hf8
    obtain rfl := harg11.eq_unread hf9; obtain rfl := harg24.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [HS0]; · iexact HS0
    isplitl [HS1]; · iexists _; iexact HS1
    isplitl [HS2]; · iexists _; iexact HS2
    iexists _; iexact HS3

end Cert.Kernel4Ideal.Prompt
end
end
-- ==== Proof.PromptHeld.lean ====
module
public import proofs.«01_k».proof.Proof.PromptRunA
public import proofs.«01_k».proof.Proof.PromptRunB
public import Idealize.ShloMosaic.Lib.Claim
@[expose] public section
set_option maxRecDepth 16384
noncomputable section
namespace Cert.Kernel4Ideal.Prompt
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at a row block that opens a batch entry, on that block's own buffers and inputs. -/
def ptA (c : Dev nD) (t : Fin cfg0.N) (h0 : t.val % 64 = 0) :=
  runA c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t) (ms0_19 t) (hs0_19 t)
    (ms0_20 t) (hs0_20 t) (ms0_21 t) (hs0_21 t) scM0_0 (Memref.isWhole_whole _) scM0_1 (Memref.isWhole_whole _)
    scM0_2 (Memref.isWhole_whole _) scM0_3 (Memref.isWhole_whole _) (iblk m c 0 t) (iblk m c 1 t) (iblk m c 2 t)
    (iblk m c 3 t) (iblk m c 4 t) (iblk m c 5 t) (iblk m c 6 t) (iblk m c 7 t) (iblk m c 8 t) (iblk m c 9 t) ((hcond0_0 t).mpr h0)

/-- The same at a later row block, the first scratch array holding `xs`. -/
def ptB (c : Dev nD) (t : Fin cfg0.N) (h0 : ¬t.val % 64 = 0) (xs : Vec F S288x512 .f32) :=
  runB c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t) (ms0_19 t) (hs0_19 t)
    (ms0_20 t) (hs0_20 t) (ms0_21 t) (hs0_21 t) scM0_0 (Memref.isWhole_whole _) scM0_1 (Memref.isWhole_whole _)
    scM0_2 (Memref.isWhole_whole _) scM0_3 (Memref.isWhole_whole _) (iblk m c 0 t) (iblk m c 1 t) (iblk m c 2 t)
    (iblk m c 3 t) (iblk m c 4 t) (iblk m c 5 t) (iblk m c 6 t) (iblk m c 7 t) (iblk m c 8 t) (iblk m c 9 t) xs (fun h => h0 ((hcond0_0 t).mp h))

/-- The twelve result blocks and the carried scratch array. -/
abbrev Outs (F : FTy → Type) : Type :=
  Vec F S1x256x512 .f32 × Vec F S1x8x256x128 .bf16 × Vec F S1x256x256 .f32 × Vec F S1x256x256 .f32 ×
  Vec F S1x2x256x1024 .bf16 × Vec F S1x256x128 .f32 × Vec F S1x256x1024 .f32 × Vec F S1x256x1024 .f32 ×
  Vec F S1x2x1x128x256 .bf16 × Vec F S1x2x1x256x128 .bf16 × Vec F S1x1x256x256 .bf16 × Vec F S1x2x8x128 .f32 ×
  Vec F S288x512 .f32

/-- The stores of result block 0 leave no element of it out. -/
theorem coverA_0 (c : Dev nD) (t : Fin cfg0.N) (h0 : t.val % 64 = 0) (y : S1x256x512.Idx) :
    ∃ pc ∈ (ptA m c t h0).1, y ∈ pc.1.set :=
  View.cover_of_tiledL (ptA m c t h0).1 S1x256x512.size (by sl_kernel_rfl) y

/-- The stores of result block 1 leave no element of it out. -/
theorem coverA_1 (c : Dev nD) (t : Fin cfg0.N) (h0 : t.val % 64 = 0) (y : S1x8x256x128.Idx) :
    ∃ pc ∈ (ptA m c t h0).2.1, y ∈ pc.1.set :=
  View.cover_of_tiledL (ptA m c t h0).2.1 S1x1x256x128.size (by sl_kernel_rfl) y

/-- The stores of result block 2 leave no element of it out. -/
theorem coverA_2 (c : Dev nD) (t : Fin cfg0.N) (h0 : t.val % 64 = 0) (y : S1x256x256.Idx) :
    ∃ pc ∈ (ptA m c t h0).2.2.1, y ∈ pc.1.set :=
  View.cover_of_tiledL (ptA m c t h0).2.2.1 S1x256x128.size (by sl_kernel_rfl) y

/-- The stores of result block 3 leave no element of it out. -/
theorem coverA_3 (c : Dev nD) (t : Fin cfg0.N) (h0 : t.val % 64 = 0) (y : S1x256x256.Idx) :
    ∃ pc ∈ (ptA m c t h0).2.2.2.1, y ∈ pc.1.set :=
  View.cover_of_tiledL (ptA m c t h0).2.2.2.1 S1x256x256.size (by sl_kernel_rfl) y

/-- The stores of result block 4 leave no element of it out. -/
theorem coverA_4 (c : Dev nD) (t : Fin cfg0.N) (h0 : t.val % 64 = 0) (y : S1x2x256x1024.Idx) :
    ∃ pc ∈ (ptA m c t h0).2.2.2.2.1, y ∈ pc.1.set :=
  View.cover_of_tiledL (ptA m c t h0).2.2.2.2.1 S1x1x128x128.size (by sl_kernel_rfl) y

/-- The stores of result block 5 leave no element of it out. -/
theorem coverA_5 (c : Dev nD) (t : Fin cfg0.N) (h0 : t.val % 64 = 0) (y : S1x256x128.Idx) :
    ∃ pc ∈ (ptA m c t h0).2.2.2.2.2.1, y ∈ pc.1.set :=
  View.cover_of_tiledL (ptA m c t h0).2.2.2.2.2.1 S1x256x128.size (by sl_kernel_rfl) y

/-- The stores of result block 6 leave no element of it out. -/
theorem coverA_6 (c : Dev nD) (t : Fin cfg0.N) (h0 : t.val % 64 = 0) (y : S1x256x1024.Idx) :
    ∃ pc ∈ (ptA m c t h0).2.2.2.2.2.2.1, y ∈ pc.1.set :=
  View.cover_of_tiledL (ptA m c t h0).2.2.2.2.2.2.1 S1x256x1024.size (by sl_kernel_rfl) y

/-- The stores of result block 7 leave no element of it out. -/
theorem coverA_7 (c : Dev nD) (t : Fin cfg0.N) (h0 : t.val % 64 = 0) (y : S1x256x1024.Idx) :
    ∃ pc ∈ (ptA m c t h0).2.2.2.2.2.2.2.1, y ∈ pc.1.set :=
  View.cover_of_tiledL (ptA m c t h0).2.2.2.2.2.2.2.1 S1x256x1024.size (by sl_kernel_rfl) y

/-- The stores of result block 8 leave no element of it out. -/
theorem coverA_8 (c : Dev nD) (t : Fin cfg0.N) (h0 : t.val % 64 = 0) (y : S1x2x1x128x256.Idx) :
    ∃ pc ∈ (ptA m c t h0).2.2.2.2.2.2.2.2.1, y ∈ pc.1.set :=
  View.cover_of_tiledL (ptA m c t h0).2.2.2.2.2.2.2.2.1 S1x1x1x128x256.size (by sl_kernel_rfl) y

/-- The stores of result block 9 leave no element of it out. -/
theorem coverA_9 (c : Dev nD) (t : Fin cfg0.N) (h0 : t.val % 64 = 0) (y : S1x2x1x256x128.Idx) :
    ∃ pc ∈ (ptA m c t h0).2.2.2.2.2.2.2.2.2.1, y ∈ pc.1.set :=
  View.cover_of_tiledL (ptA m c t h0).2.2.2.2.2.2.2.2.2.1 S1x1x1x256x128.size (by sl_kernel_rfl) y

/-- The stores of result block 10 leave no element of it out. -/
theorem coverA_10 (c : Dev nD) (t : Fin cfg0.N) (h0 : t.val % 64 = 0) (y : S1x1x256x256.Idx) :
    ∃ pc ∈ (ptA m c t h0).2.2.2.2.2.2.2.2.2.2.1, y ∈ pc.1.set :=
  View.cover_of_tiledL (ptA m c t h0).2.2.2.2.2.2.2.2.2.2.1 S1x1x256x128.size (by sl_kernel_rfl) y

/-- The stores of result block 11 leave no element of it out. -/
theorem coverA_11 (c : Dev nD) (t : Fin cfg0.N) (h0 : t.val % 64 = 0) (y : S1x2x8x128.Idx) :
    ∃ pc ∈ (ptA m c t h0).2.2.2.2.2.2.2.2.2.2.2.1, y ∈ pc.1.set :=
  View.cover_of_tiledL (ptA m c t h0).2.2.2.2.2.2.2.2.2.2.2.1 S1x1x8x128.size (by sl_kernel_rfl) y

/-- The stores of the carried scratch array leave no element of it out when a batch entry opens. -/
theorem coverA_S (c : Dev nD) (t : Fin cfg0.N) (h0 : t.val % 64 = 0) (y : S288x512.Idx) :
    ∃ pc ∈ (ptA m c t h0).2.2.2.2.2.2.2.2.2.2.2.2.1, y ∈ pc.1.set :=
  View.cover_of_tiledBy (ptA m c t h0).2.2.2.2.2.2.2.2.2.2.2.2.1 ![16, 512] (by sl_kernel_rfl) y

/-- What the body leaves at such a row block. -/
def outA (c : Dev nD) (t : Fin cfg0.N) (h0 : t.val % 64 = 0) : Outs F :=
  (VO0_10.read (Elt F) (VO0_10.writes (Elt F) VO0_10.junk (ptA m c t h0).1),
    VO0_11.read (Elt F) (VO0_11.writes (Elt F) VO0_11.junk (ptA m c t h0).2.1),
    VO0_12.read (Elt F) (VO0_12.writes (Elt F) VO0_12.junk (ptA m c t h0).2.2.1),
    VO0_13.read (Elt F) (VO0_13.writes (Elt F) VO0_13.junk (ptA m c t h0).2.2.2.1),
    VO0_14.read (Elt F) (VO0_14.writes (Elt F) VO0_14.junk (ptA m c t h0).2.2.2.2.1),
    VO0_15.read (Elt F) (VO0_15.writes (Elt F) VO0_15.junk (ptA m c t h0).2.2.2.2.2.1),
    VO0_16.read (Elt F) (VO0_16.writes (Elt F) VO0_16.junk (ptA m c t h0).2.2.2.2.2.2.1),
    VO0_17.read (Elt F) (VO0_17.writes (Elt F) VO0_17.junk (ptA m c t h0).2.2.2.2.2.2.2.1),
    VO0_18.read (Elt F) (VO0_18.writes (Elt F) VO0_18.junk (ptA m c t h0).2.2.2.2.2.2.2.2.1),
    VO0_19.read (Elt F) (VO0_19.writes (Elt F) VO0_19.junk (ptA m c t h0).2.2.2.2.2.2.2.2.2.1),
    VO0_20.read (Elt F) (VO0_20.writes (Elt F) VO0_20.junk (ptA m c t h0).2.2.2.2.2.2.2.2.2.2.1),
    VO0_21.read (Elt F) (VO0_21.writes (Elt F) VO0_21.junk (ptA m c t h0).2.2.2.2.2.2.2.2.2.2.2.1),
    VS0_0.read (Elt F) (VS0_0.writes (Elt F) VS0_0.junk (ptA m c t h0).2.2.2.2.2.2.2.2.2.2.2.2.1))

/-- The stores of result block 0 leave no element of it out. -/
theorem coverB_0 (c : Dev nD) (t : Fin cfg0.N) (h0 : ¬t.val % 64 = 0) (xs : Vec F S288x512 .f32) (y : S1x256x512.Idx) :
    ∃ pc ∈ (ptB m c t h0 xs).1, y ∈ pc.1.set :=
  View.cover_of_tiledL (ptB m c t h0 xs).1 S1x256x512.size (by sl_kernel_rfl) y

/-- The stores of result block 1 leave no element of it out. -/
theorem coverB_1 (c : Dev nD) (t : Fin cfg0.N) (h0 : ¬t.val % 64 = 0) (xs : Vec F S288x512 .f32) (y : S1x8x256x128.Idx) :
    ∃ pc ∈ (ptB m c t h0 xs).2.1, y ∈ pc.1.set :=
  View.cover_of_tiledL (ptB m c t h0 xs).2.1 S1x1x256x128.size (by sl_kernel_rfl) y

/-- The stores of result block 2 leave no element of it out. -/
theorem coverB_2 (c : Dev nD) (t : Fin cfg0.N) (h0 : ¬t.val % 64 = 0) (xs : Vec F S288x512 .f32) (y : S1x256x256.Idx) :
    ∃ pc ∈ (ptB m c t h0 xs).2.2.1, y ∈ pc.1.set :=
  View.cover_of_tiledL (ptB m c t h0 xs).2.2.1 S1x256x128.size (by sl_kernel_rfl) y

/-- The stores of result block 3 leave no element of it out. -/
theorem coverB_3 (c : Dev nD) (t : Fin cfg0.N) (h0 : ¬t.val % 64 = 0) (xs : Vec F S288x512 .f32) (y : S1x256x256.Idx) :
    ∃ pc ∈ (ptB m c t h0 xs).2.2.2.1, y ∈ pc.1.set :=
  View.cover_of_tiledL (ptB m c t h0 xs).2.2.2.1 S1x256x256.size (by sl_kernel_rfl) y

/-- The stores of result block 4 leave no element of it out. -/
theorem coverB_4 (c : Dev nD) (t : Fin cfg0.N) (h0 : ¬t.val % 64 = 0) (xs : Vec F S288x512 .f32) (y : S1x2x256x1024.Idx) :
    ∃ pc ∈ (ptB m c t h0 xs).2.2.2.2.1, y ∈ pc.1.set :=
  View.cover_of_tiledL (ptB m c t h0 xs).2.2.2.2.1 S1x1x128x128.size (by sl_kernel_rfl) y

/-- The stores of result block 5 leave no element of it out. -/
theorem coverB_5 (c : Dev nD) (t : Fin cfg0.N) (h0 : ¬t.val % 64 = 0) (xs : Vec F S288x512 .f32) (y : S1x256x128.Idx) :
    ∃ pc ∈ (ptB m c t h0 xs).2.2.2.2.2.1, y ∈ pc.1.set :=
  View.cover_of_tiledL (ptB m c t h0 xs).2.2.2.2.2.1 S1x256x128.size (by sl_kernel_rfl) y

/-- The stores of result block 6 leave no element of it out. -/
theorem coverB_6 (c : Dev nD) (t : Fin cfg0.N) (h0 : ¬t.val % 64 = 0) (xs : Vec F S288x512 .f32) (y : S1x256x1024.Idx) :
    ∃ pc ∈ (ptB m c t h0 xs).2.2.2.2.2.2.1, y ∈ pc.1.set :=
  View.cover_of_tiledL (ptB m c t h0 xs).2.2.2.2.2.2.1 S1x256x1024.size (by sl_kernel_rfl) y

/-- The stores of result block 7 leave no element of it out. -/
theorem coverB_7 (c : Dev nD) (t : Fin cfg0.N) (h0 : ¬t.val % 64 = 0) (xs : Vec F S288x512 .f32) (y : S1x256x1024.Idx) :
    ∃ pc ∈ (ptB m c t h0 xs).2.2.2.2.2.2.2.1, y ∈ pc.1.set :=
  View.cover_of_tiledL (ptB m c t h0 xs).2.2.2.2.2.2.2.1 S1x256x1024.size (by sl_kernel_rfl) y

/-- The stores of result block 8 leave no element of it out. -/
theorem coverB_8 (c : Dev nD) (t : Fin cfg0.N) (h0 : ¬t.val % 64 = 0) (xs : Vec F S288x512 .f32) (y : S1x2x1x128x256.Idx) :
    ∃ pc ∈ (ptB m c t h0 xs).2.2.2.2.2.2.2.2.1, y ∈ pc.1.set :=
  View.cover_of_tiledL (ptB m c t h0 xs).2.2.2.2.2.2.2.2.1 S1x1x1x128x256.size (by sl_kernel_rfl) y

/-- The stores of result block 9 leave no element of it out. -/
theorem coverB_9 (c : Dev nD) (t : Fin cfg0.N) (h0 : ¬t.val % 64 = 0) (xs : Vec F S288x512 .f32) (y : S1x2x1x256x128.Idx) :
    ∃ pc ∈ (ptB m c t h0 xs).2.2.2.2.2.2.2.2.2.1, y ∈ pc.1.set :=
  View.cover_of_tiledL (ptB m c t h0 xs).2.2.2.2.2.2.2.2.2.1 S1x1x1x256x128.size (by sl_kernel_rfl) y

/-- The stores of result block 10 leave no element of it out. -/
theorem coverB_10 (c : Dev nD) (t : Fin cfg0.N) (h0 : ¬t.val % 64 = 0) (xs : Vec F S288x512 .f32) (y : S1x1x256x256.Idx) :
    ∃ pc ∈ (ptB m c t h0 xs).2.2.2.2.2.2.2.2.2.2.1, y ∈ pc.1.set :=
  View.cover_of_tiledL (ptB m c t h0 xs).2.2.2.2.2.2.2.2.2.2.1 S1x1x256x128.size (by sl_kernel_rfl) y

/-- The stores of result block 11 leave no element of it out. -/
theorem coverB_11 (c : Dev nD) (t : Fin cfg0.N) (h0 : ¬t.val % 64 = 0) (xs : Vec F S288x512 .f32) (y : S1x2x8x128.Idx) :
    ∃ pc ∈ (ptB m c t h0 xs).2.2.2.2.2.2.2.2.2.2.2.1, y ∈ pc.1.set :=
  View.cover_of_tiledL (ptB m c t h0 xs).2.2.2.2.2.2.2.2.2.2.2.1 S1x1x8x128.size (by sl_kernel_rfl) y

/-- What the body leaves at such a row block. -/
def outB (c : Dev nD) (t : Fin cfg0.N) (h0 : ¬t.val % 64 = 0) (xs : Vec F S288x512 .f32) : Outs F :=
  (VO0_10.read (Elt F) (VO0_10.writes (Elt F) VO0_10.junk (ptB m c t h0 xs).1),
    VO0_11.read (Elt F) (VO0_11.writes (Elt F) VO0_11.junk (ptB m c t h0 xs).2.1),
    VO0_12.read (Elt F) (VO0_12.writes (Elt F) VO0_12.junk (ptB m c t h0 xs).2.2.1),
    VO0_13.read (Elt F) (VO0_13.writes (Elt F) VO0_13.junk (ptB m c t h0 xs).2.2.2.1),
    VO0_14.read (Elt F) (VO0_14.writes (Elt F) VO0_14.junk (ptB m c t h0 xs).2.2.2.2.1),
    VO0_15.read (Elt F) (VO0_15.writes (Elt F) VO0_15.junk (ptB m c t h0 xs).2.2.2.2.2.1),
    VO0_16.read (Elt F) (VO0_16.writes (Elt F) VO0_16.junk (ptB m c t h0 xs).2.2.2.2.2.2.1),
    VO0_17.read (Elt F) (VO0_17.writes (Elt F) VO0_17.junk (ptB m c t h0 xs).2.2.2.2.2.2.2.1),
    VO0_18.read (Elt F) (VO0_18.writes (Elt F) VO0_18.junk (ptB m c t h0 xs).2.2.2.2.2.2.2.2.1),
    VO0_19.read (Elt F) (VO0_19.writes (Elt F) VO0_19.junk (ptB m c t h0 xs).2.2.2.2.2.2.2.2.2.1),
    VO0_20.read (Elt F) (VO0_20.writes (Elt F) VO0_20.junk (ptB m c t h0 xs).2.2.2.2.2.2.2.2.2.2.1),
    VO0_21.read (Elt F) (VO0_21.writes (Elt F) VO0_21.junk (ptB m c t h0 xs).2.2.2.2.2.2.2.2.2.2.2.1),
    scM0_0.view.read (Elt F) (scM0_0.view.writes (Elt F) ((Memref.isWhole_whole _ : scM0_0.IsWhole).unread xs) (ptB m c t h0 xs).2.2.2.2.2.2.2.2.2.2.2.2.1))

/-- What the result blocks and the carried scratch array hold after row block `n`, counted over both batch entries. -/
def held (c : Dev nD) : (n : ℕ) → n < cfg0.N → Outs F
  | 0, hn => outA m c ⟨0, hn⟩ (Nat.zero_mod _)
  | n + 1, hn =>
    if h0 : (n + 1) % 64 = 0 then outA m c ⟨n + 1, hn⟩ h0
    else outB m c ⟨n + 1, hn⟩ h0 (held c n (Nat.lt_of_succ_lt hn)).2.2.2.2.2.2.2.2.2.2.2.2

theorem held_A (c : Dev nD) (t : Fin cfg0.N) (h0 : t.val % 64 = 0) : held m c t.val t.isLt = outA m c t h0 := by
  obtain ⟨n, hn⟩ := t
  cases n with
  | zero => exact rfl
  | succ n => exact (dif_pos h0).trans rfl

theorem held_B (c : Dev nD) (t : Fin cfg0.N) (h0 : ¬t.val % 64 = 0) :
    held m c t.val t.isLt = outB m c t h0 (held m c (t.val - 1) (Nat.lt_of_le_of_lt (Nat.sub_le _ _) t.isLt)).2.2.2.2.2.2.2.2.2.2.2.2 := by
  obtain ⟨n, hn⟩ := t
  cases n with
  | zero => exact absurd (Nat.zero_mod _) h0
  | succ n => exact (dif_neg h0).trans rfl

/-- The scratch arrays and the generator register, the carried scratch array holding `x`. -/
def carry (c : Dev nD) (x : Vec F S288x512 .f32) : sProp 𝕄 :=
  iprop(iprop(owns (c : Thread nD τ) scM0_0 fullShare x ∗ (∃ d, owns (c : Thread nD τ) scM0_1 fullShare d)
    ∗ (∃ d, owns (c : Thread nD τ) scM0_2 fullShare d) ∗ (∃ d, owns (c : Thread nD τ) scM0_3 fullShare d)) ∗ (∃ r, prngReg c r))

/-- What holds between two row blocks: before the first nothing is known of the scratch arrays, afterwards the carried one
    holds what the last row block left. -/
def between (c : Dev nD) : (n : ℕ) → n ≤ cfg0.N → sProp 𝕄
  | 0, _ => Pipeline.ΦA spec0 c
  | n + 1, hn => carry c (held m c n hn).2.2.2.2.2.2.2.2.2.2.2.2

theorem between_pos (c : Dev nD) (n : ℕ) (h : n ≤ cfg0.N) (hz : n ≠ 0) :
    between m c n h = carry c (held m c (n - 1) (by omega)).2.2.2.2.2.2.2.2.2.2.2.2 := by
  cases n with
  | zero => exact absurd rfl hz
  | succ n => rfl

/-- The data of the pipelined loop. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (held m c t.val t.isLt).1
    | ⟨11, _⟩ => (held m c t.val t.isLt).2.1
    | ⟨12, _⟩ => (held m c t.val t.isLt).2.2.1
    | ⟨13, _⟩ => (held m c t.val t.isLt).2.2.2.1
    | ⟨14, _⟩ => (held m c t.val t.isLt).2.2.2.2.1
    | ⟨15, _⟩ => (held m c t.val t.isLt).2.2.2.2.2.1
    | ⟨16, _⟩ => (held m c t.val t.isLt).2.2.2.2.2.2.1
    | ⟨17, _⟩ => (held m c t.val t.isLt).2.2.2.2.2.2.2.1
    | ⟨18, _⟩ => (held m c t.val t.isLt).2.2.2.2.2.2.2.2.1
    | ⟨19, _⟩ => (held m c t.val t.isLt).2.2.2.2.2.2.2.2.2.1
    | ⟨20, _⟩ => (held m c t.val t.isLt).2.2.2.2.2.2.2.2.2.2.1
    | ⟨21, _⟩ => (held m c t.val t.isLt).2.2.2.2.2.2.2.2.2.2.2.1
    | ⟨_ + 22, h⟩ => absurd h (Nat.not_lt.2 (Nat.le_add_left _ _))
  Φ t := between m c t.val (Nat.le_of_lt_succ t.isLt)
  q _ := fullShare
  owed _ := 0

theorem A_eq (c : Dev nD) (w : Fin cfg0.W) : (dats m 0 c).A w = V m c (Pipeline.arrRef spec0 w) := by
  dsimp only [dats]

theorem between_castSucc (c : Dev nD) (t : Fin cfg0.N) :
    (dats m 0 c).Φ t.castSucc = between m c t.val (Nat.le_of_lt t.isLt) := by
  dsimp only [dats]; exact Pipeline.Dat.Φ_castSucc (between m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = (held m c t.val t.isLt).1 := by
  dsimp only [dats]
theorem after_11 (c : Dev nD) (t : Fin cfg0.N) : (dats m 0 c).after 11 t = (held m c t.val t.isLt).2.1 := by
  dsimp only [dats]
theorem after_12 (c : Dev nD) (t : Fin cfg0.N) : (dats m 0 c).after 12 t = (held m c t.val t.isLt).2.2.1 := by
  dsimp only [dats]
theorem after_13 (c : Dev nD) (t : Fin cfg0.N) : (dats m 0 c).after 13 t = (held m c t.val t.isLt).2.2.2.1 := by
  dsimp only [dats]
theorem after_14 (c : Dev nD) (t : Fin cfg0.N) : (dats m 0 c).after 14 t = (held m c t.val t.isLt).2.2.2.2.1 := by
  dsimp only [dats]
theorem after_15 (c : Dev nD) (t : Fin cfg0.N) : (dats m 0 c).after 15 t = (held m c t.val t.isLt).2.2.2.2.2.1 := by
  dsimp only [dats]
theorem after_16 (c : Dev nD) (t : Fin cfg0.N) : (dats m 0 c).after 16 t = (held m c t.val t.isLt).2.2.2.2.2.2.1 := by
  dsimp only [dats]
theorem after_17 (c : Dev nD) (t : Fin cfg0.N) : (dats m 0 c).after 17 t = (held m c t.val t.isLt).2.2.2.2.2.2.2.1 := by
  dsimp only [dats]
theorem after_18 (c : Dev nD) (t : Fin cfg0.N) : (dats m 0 c).after 18 t = (held m c t.val t.isLt).2.2.2.2.2.2.2.2.1 := by
  dsimp only [dats]
theorem after_19 (c : Dev nD) (t : Fin cfg0.N) : (dats m 0 c).after 19 t = (held m c t.val t.isLt).2.2.2.2.2.2.2.2.2.1 := by
  dsimp only [dats]
theorem after_20 (c : Dev nD) (t : Fin cfg0.N) : (dats m 0 c).after 20 t = (held m c t.val t.isLt).2.2.2.2.2.2.2.2.2.2.1 := by
  dsimp only [dats]
theorem after_21 (c : Dev nD) (t : Fin cfg0.N) : (dats m 0 c).after 21 t = (held m c t.val t.isLt).2.2.2.2.2.2.2.2.2.2.2.1 := by
  dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- What the body is given at row block `t`, `Φ` standing for the scratch arrays and the generator register. -/
def bodyPre (c : Dev nD) (t : Fin cfg0.N) (Φ : sProp 𝕄) : sProp 𝕄 :=
  iprop(Φ ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

/-- What it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t))

end Cert.Kernel4Ideal.Prompt
end
end
-- ==== Proof.PromptSoundA.lean ====
module
public import proofs.«01_k».proof.Proof.PromptHeld
public import Idealize.ShloMosaic.Lib.Claim
@[expose] public section
set_option maxRecDepth 16384
noncomputable section
namespace Cert.Kernel4Ideal.Prompt
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch arrays and the generator register, of which nothing is known. -/
def fresh (c : Dev nD) : sProp 𝕄 :=
  iprop(iprop((∃ d, owns (c : Thread nD τ) scM0_0 fullShare d) ∗ (∃ d, owns (c : Thread nD τ) scM0_1 fullShare d)
    ∗ (∃ d, owns (c : Thread nD τ) scM0_2 fullShare d) ∗ (∃ d, owns (c : Thread nD τ) scM0_3 fullShare d)) ∗ (∃ r, prngReg c r))

set_option maxHeartbeats 19200000 in
theorem sound_A (c : Dev nD) (t : Fin cfg0.N) (h0 : t.val % 64 = 0) :
    bodyPre m c t (fresh c) ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl,
    after_0, after_1, after_2, after_3, after_4, after_5, after_6, after_7, after_8, after_9, after_10, after_11,
    after_12, after_13, after_14, after_15, after_16, after_17, after_18, after_19, after_20, after_21]
  rw [show (dats m 0 c).Φ t.succ = carry c (held m c t.val t.isLt).2.2.2.2.2.2.2.2.2.2.2.2 from rfl]
  rw [held_A m c t h0]
  unfold outA carry fresh; dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩, ⟨%d16, H16⟩, ⟨%d17, H17⟩,
    ⟨%d18, H18⟩, ⟨%d19, H19⟩, ⟨%d20, H20⟩, ⟨%d21, H21⟩⟩
  iapply ((ptA m c t h0).2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [HS0]; · iexact HS0
  isplitl [HS1]; · iexact HS1
  isplitl [HS2]; · iexact HS2
  isplitl [HS3]; · iexact HS3
  iintro ⟨H0, H1, H2, H3, H4, H5, H6, H7, H8, H9, ⟨%e10, H10⟩, ⟨%e11, H11⟩, ⟨%e12, H12⟩, ⟨%e13, H13⟩, ⟨%e14, H14⟩,
    ⟨%e15, H15⟩, ⟨%e16, H16⟩, ⟨%e17, H17⟩, ⟨%e18, H18⟩, ⟨%e19, H19⟩, ⟨%e20, H20⟩, ⟨%e21, H21⟩, ⟨%es0, HS0⟩,
    ⟨%g1, HS1⟩, ⟨%g2, HS2⟩, ⟨%g3, HS3⟩⟩
  isplitl [HS0 HS1 HS2 HS3 Hg]
  · isplitl [HS0 HS1 HS2 HS3]
    · isplitl [HS0]
      · unfold owns; iexists _; isplitr
        swap; · iexact HS0
        ipureintro; exact View.read_writes_of_cover _ _ _ _ _ (coverA_S m c t h0)
      isplitl [HS1]
      · iexists _; unfold owns; iexists _; isplitr
        swap; · iexact HS1
        ipureintro; rfl
      isplitl [HS2]
      · iexists _; unfold owns; iexists _; isplitr
        swap; · iexact HS2
        ipureintro; rfl
      iexists _; unfold owns; iexists _; isplitr
      swap; · iexact HS3
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (coverA_0 m c t h0)
  isplitl [H11]
  · unfold owns; iexists _; isplitr
    swap; · iexact H11
    ipureintro; exact View.read_writes_of_cover _ _ _ _ _ (coverA_1 m c t h0)
  isplitl [H12]
  · unfold owns; iexists _; isplitr
    swap; · iexact H12
    ipureintro; exact View.read_writes_of_cover _ _ _ _ _ (coverA_2 m c t h0)
  isplitl [H13]
  · unfold owns; iexists _; isplitr
    swap; · iexact H13
    ipureintro; exact View.read_writes_of_cover _ _ _ _ _ (coverA_3 m c t h0)
  isplitl [H14]
  · unfold owns; iexists _; isplitr
    swap; · iexact H14
    ipureintro; exact View.read_writes_of_cover _ _ _ _ _ (coverA_4 m c t h0)
  isplitl [H15]
  · unfold owns; iexists _; isplitr
    swap; · iexact H15
    ipureintro; exact View.read_writes_of_cover _ _ _ _ _ (coverA_5 m c t h0)
  isplitl [H16]
  · unfold owns; iexists _; isplitr
    swap; · iexact H16
    ipureintro; exact View.read_writes_of_cover _ _ _ _ _ (coverA_6 m c t h0)
  isplitl [H17]
  · unfold owns; iexists _; isplitr
    swap; · iexact H17
    ipureintro; exact View.read_writes_of_cover _ _ _ _ _ (coverA_7 m c t h0)
  isplitl [H18]
  · unfold owns; iexists _; isplitr
    swap; · iexact H18
    ipureintro; exact View.read_writes_of_cover _ _ _ _ _ (coverA_8 m c t h0)
  isplitl [H19]
  · unfold owns; iexists _; isplitr
    swap; · iexact H19
    ipureintro; exact View.read_writes_of_cover _ _ _ _ _ (coverA_9 m c t h0)
  isplitl [H20]
  · unfold owns; iexists _; isplitr
    swap; · iexact H20
    ipureintro; exact View.read_writes_of_cover _ _ _ _ _ (coverA_10 m c t h0)
  unfold owns; iexists _; isplitr
  swap; · iexact H21
  ipureintro; exact View.read_writes_of_cover _ _ _ _ _ (coverA_11 m c t h0)

end Cert.Kernel4Ideal.Prompt
end
end
-- ==== Proof.PromptSoundB.lean ====
module
public import proofs.«01_k».proof.Proof.PromptHeld
public import Idealize.ShloMosaic.Lib.Claim
@[expose] public section
set_option maxRecDepth 16384
noncomputable section
namespace Cert.Kernel4Ideal.Prompt
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 19200000 in
theorem sound_B (c : Dev nD) (t : Fin cfg0.N) (h0 : ¬t.val % 64 = 0) (xs : Vec F S288x512 .f32)
    (hx : (held m c (t.val - 1) (Nat.lt_of_le_of_lt (Nat.sub_le _ _) t.isLt)).2.2.2.2.2.2.2.2.2.2.2.2 = xs) :
    bodyPre m c t (carry c xs) ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl,
    after_0, after_1, after_2, after_3, after_4, after_5, after_6, after_7, after_8, after_9, after_10, after_11,
    after_12, after_13, after_14, after_15, after_16, after_17, after_18, after_19, after_20, after_21]
  rw [show (dats m 0 c).Φ t.succ = carry c (held m c t.val t.isLt).2.2.2.2.2.2.2.2.2.2.2.2 from rfl]
  rw [held_B m c t h0, hx]
  unfold outB carry; dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩, ⟨%d16, H16⟩, ⟨%d17, H17⟩,
    ⟨%d18, H18⟩, ⟨%d19, H19⟩, ⟨%d20, H20⟩, ⟨%d21, H21⟩⟩
  iapply ((ptB m c t h0 xs).2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [HS0]; · iexact HS0
  isplitl [HS1]; · iexact HS1
  isplitl [HS2]; · iexact HS2
  isplitl [HS3]; · iexact HS3
  iintro ⟨H0, H1, H2, H3, H4, H5, H6, H7, H8, H9, ⟨%e10, H10⟩, ⟨%e11, H11⟩, ⟨%e12, H12⟩, ⟨%e13, H13⟩, ⟨%e14, H14⟩,
    ⟨%e15, H15⟩, ⟨%e16, H16⟩, ⟨%e17, H17⟩, ⟨%e18, H18⟩, ⟨%e19, H19⟩, ⟨%e20, H20⟩, ⟨%e21, H21⟩, HS0, ⟨%g1, HS1⟩,
    ⟨%g2, HS2⟩, ⟨%g3, HS3⟩⟩
  isplitl [HS0 HS1 HS2 HS3 Hg]
  · isplitl [HS0 HS1 HS2 HS3]
    · isplitl [HS0]
      · unfold owns; iexists _; isplitr
        swap; · iexact HS0
        ipureintro; exact rfl
      isplitl [HS1]
      · iexists _; unfold owns; iexists _; isplitr
        swap; · iexact HS1
        ipureintro; rfl
      isplitl [HS2]
      · iexists _; unfold owns; iexists _; isplitr
        swap; · iexact HS2
        ipureintro; rfl
      iexists _; unfold owns; iexists _; isplitr
      swap; · iexact HS3
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (coverB_0 m c t h0 xs)
  isplitl [H11]
  · unfold owns; iexists _; isplitr
    swap; · iexact H11
    ipureintro; exact View.read_writes_of_cover _ _ _ _ _ (coverB_1 m c t h0 xs)
  isplitl [H12]
  · unfold owns; iexists _; isplitr
    swap; · iexact H12
    ipureintro; exact View.read_writes_of_cover _ _ _ _ _ (coverB_2 m c t h0 xs)
  isplitl [H13]
  · unfold owns; iexists _; isplitr
    swap; · iexact H13
    ipureintro; exact View.read_writes_of_cover _ _ _ _ _ (coverB_3 m c t h0 xs)
  isplitl [H14]
  · unfold owns; iexists _; isplitr
    swap; · iexact H14
    ipureintro; exact View.read_writes_of_cover _ _ _ _ _ (coverB_4 m c t h0 xs)
  isplitl [H15]
  · unfold owns; iexists _; isplitr
    swap; · iexact H15
    ipureintro; exact View.read_writes_of_cover _ _ _ _ _ (coverB_5 m c t h0 xs)
  isplitl [H16]
  · unfold owns; iexists _; isplitr
    swap; · iexact H16
    ipureintro; exact View.read_writes_of_cover _ _ _ _ _ (coverB_6 m c t h0 xs)
  isplitl [H17]
  · unfold owns; iexists _; isplitr
    swap; · iexact H17
    ipureintro; exact View.read_writes_of_cover _ _ _ _ _ (coverB_7 m c t h0 xs)
  isplitl [H18]
  · unfold owns; iexists _; isplitr
    swap; · iexact H18
    ipureintro; exact View.read_writes_of_cover _ _ _ _ _ (coverB_8 m c t h0 xs)
  isplitl [H19]
  · unfold owns; iexists _; isplitr
    swap; · iexact H19
    ipureintro; exact View.read_writes_of_cover _ _ _ _ _ (coverB_9 m c t h0 xs)
  isplitl [H20]
  · unfold owns; iexists _; isplitr
    swap; · iexact H20
    ipureintro; exact View.read_writes_of_cover _ _ _ _ _ (coverB_10 m c t h0 xs)
  unfold owns; iexists _; isplitr
  swap; · iexact H21
  ipureintro; exact View.read_writes_of_cover _ _ _ _ _ (coverB_11 m c t h0 xs)

end Cert.Kernel4Ideal.Prompt
end
end
-- ==== Proof.PromptFrame.lean ====
module
public import proofs.«01_k».proof.Proof.PromptSoundA
public import proofs.«01_k».proof.Proof.PromptSoundB
public import Idealize.ShloMosaic.Lib.Claim
@[expose] public section
set_option maxRecDepth 16384
noncomputable section
namespace Cert.Kernel4Ideal.Prompt
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem fresh_eq (c : Dev nD) : (Pipeline.ΦA spec0 c : sProp 𝕄) = fresh c := PhiA0_eq c

theorem carry_forget (c : Dev nD) (x : Vec F S288x512 .f32) : carry c x ⊢ fresh c := by
  unfold carry fresh
  iintro ⟨⟨HS0, HS⟩, Hg⟩
  isplitl [HS0 HS]
  · isplitl [HS0]
    · iexists _; iexact HS0
    iexact HS
  iexact Hg

theorem between_zero (c : Dev nD) (h : 0 ≤ cfg0.N) : between m c 0 h = fresh c := fresh_eq c

/-- Between two row blocks, forgetting what the carried scratch array holds. -/
theorem between_forget (c : Dev nD) (n : ℕ) (h : n ≤ cfg0.N) : between m c n h ⊢ fresh c := by
  by_cases hz : n = 0
  · subst hz; rw [between_zero]
  · rw [between_pos m c n h hz]; exact carry_forget c _

attribute [local irreducible] held between

theorem before_first (c : Dev nD) : Pipeline.ΦA spec0 c ⊢ (dats m 0 c).Φ 0 := by
  rw [show (dats m 0 c).Φ 0 = between m c 0 (Nat.zero_le _) from rfl, between_zero, fresh_eq]

theorem after_last (c : Dev nD) : (dats m 0 c).Φ (Fin.last cfg0.N) ⊢ Pipeline.ΦA spec0 c := by
  rw [show (dats m 0 c).Φ (Fin.last cfg0.N) = between m c cfg0.N (Nat.le_refl _) from rfl, fresh_eq]
  exact between_forget m c _ _

/-- The body at any row block. -/
theorem sound_body (c : Dev nD) (t : Fin cfg0.N) : bodyPre m c t ((dats m 0 c).Φ t.castSucc)
    ⊢ wp frame (wpE (defs₀ (F := F)) Variants.none c none) Set.univ (bodyAt0 t) (fun _ => bodyPost m c t) := by
  rw [between_castSucc m c t]
  by_cases h0 : t.val % 64 = 0
  · exact Idealize.SL.BI.Entails.trans (sep_mono_l (between_forget m c t.val (Nat.le_of_lt t.isLt))) (sound_A m c t h0)
  · rw [between_pos m c _ _ (fun hz => h0 (by rw [hz]))]
    exact sound_B m c t h0 _ rfl

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option maxHeartbeats 4000000 in
set_option backward.isDefEq.respectTransparency.types false in
/-- Every run ends, with the results as the pipelined loop computes them and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := before_first m) (hout := after_last m)

theorem run_main : θ_run defs (onTc (τ := τ) (main (F := F))) (s₀ m ρ) (Pipeline.FramePost cfgs (dats m) 0 (V m)) :=
  (θ_run defs _ _).mono (fun _ h => h.1) (run_quiescent m ρ)

/-- The argument arrays end as they were and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.Kernel4Ideal.Prompt
end
end
-- ==== Proof.PromptRow.lean ====
module
public import proofs.«01_k».proof.Proof.ProjRow
@[expose] public section
set_option maxRecDepth 16384
noncomputable section
namespace Cert.Prompt
open Idealize.ShloMosaic Cert.Finish Cert.Proj

/-! The projection half of the layer on one row `x` of the prompt at position `t`, as far as it reads that row alone: `G` the
    scale of the normalisation, `W` the input projection. -/

variable (x : Fin 1024 → EReal) (G : Fin 1024 → EReal) (W : Fin 1024 → Fin 4680 → EReal) (t : ℕ)

/-- Column `c` of the projected row. -/
def pcol (c : Fin 4680) : EReal := rowMul (rms x G) W c

/-- Column `l` of the row projected by the widened projection. -/
def pwide (l : Fin 4736) : EReal := rowMul (rms x G) (wide W) l

theorem pwide_low (l : Fin 4736) (c : Fin 4680) (h : l.val < 2632) (hc : c.val = l.val) : pwide x G W l = pcol x G W c :=
  wcol_low (fun _ => x) G W 0 l c h hc

theorem pwide_high (l : Fin 4736) (c : Fin 4680) (h : 2688 ≤ l.val) (hc : c.val + 56 = l.val) :
    pwide x G W l = pcol x G W c :=
  wcol_high (fun _ => x) G W 0 l c h hc

theorem pwide_zero (l : Fin 4736) (h : 2632 ≤ l.val) (h' : l.val < 2688) : pwide x G W l = 0 :=
  wcol_zero (fun _ => x) G W 0 l h h'

/-- The angle of pair `e` at position `t`, the pairs' number being the number of the pattern `d`: t · 500000^(-e / pairs). -/
def pangle (d : BitVec 32) (t e : ℕ) : EReal :=
  FloatOps.sitofp (F := Ideal) .f32 (BitVec.ofNat 32 t) *
    Ideal.pow (Ideal.ofBits .f32 1223959552#32)
      (Ideal.div (-FloatOps.sitofp (F := Ideal) .f32 (BitVec.ofNat 32 e)) (Ideal.ofBits .f32 d))

/-- The kernel counts positions from a zero it adds. -/
theorem zero_addi (w : BitVec 32) : IntOp.addi 0#32 w = w := BitVec.zero_add w

/-- Head `h` of the query row, turned and scaled. -/
def pq (h : Fin 8) (l : Fin 128) : EReal :=
  turn 16 (by omega) (fun i => pcol x G W ⟨512 + (h.val * 128 + i.val), by omega⟩) (pangle 1098907648#32 t) l
    * Ideal.ofBits .f32 1040356334#32

/-- The key row: two heads of 128 lanes, each turned. -/
def pk (c : Fin 256) : EReal :=
  turn 16 (by omega) (fun i => pcol x G W ⟨1536 + (c.val / 128 * 128 + i.val), by omega⟩) (pangle 1098907648#32 t)
    ⟨c.val % 128, by omega⟩

/-- The indexer's key turned (64 lanes), its head weights scaled (8 lanes), zeros. -/
def pkiw (l : Fin 128) : EReal :=
  if h : l.val < 64 then turn 8 (by omega) (fun i => pcol x G W ⟨2560 + i.val, by omega⟩) (pangle 1090519040#32 t) l
  else if h' : l.val - 64 < 8 then pcol x G W ⟨2624 + (l.val - 64), by omega⟩ * Ideal.ofBits .f32 1026884851#32
  else 0

/-- The attention branch's gate. -/
def psgb (j : Fin 1024) : EReal := sigm (pcol x G W ⟨3656 + j.val, by omega⟩)

end Cert.Prompt
end
end
-- ==== Proof.PromptBlock.lean ====
module
public import proofs.«01_k».proof.Proof.Gen.Kernel4Ideal.Skeleton
public import proofs.«01_k».proof.Proof.PromptRow
public import Idealize.ShloMosaic.Lib.Pointwise
@[expose] public section
set_option maxRecDepth 16384
noncomputable section
namespace Cert.Kernel4Ideal.Block
open Idealize.ShloMosaic Idealize.ShloMosaic.TcCoe Idealize.SL.Sem
open Cert.Kernel4Ideal Cert.Kernel4Ideal.Gen Cert.Finish Cert.Proj

/-- The projected block at row `r`, column `c`. -/
theorem proj_at (x : FVec Ideal S1x256x1024 .f32) (g : FVec Ideal S1x1024 .f32) (w : FVec Ideal S1024x4736 .bf16)
    (r : Fin 256) (c : Fin 4736) :
    k0_pay3 (F := Ideal) x g w (ix2 r c)
      = rowMul (rms (fun k => x (ix3 0 r k)) (fun k => g (ix2 0 k))) (fun k l => w (ix2 k l)) c := by
  pointwise [k0_pay3]
  simp only [rms, rowMul, zero_add, dLen, eps]

/-! The eight stores of the query's heads: 128 columns each, turned and scaled. -/

/-- What is stored for the head of the columns from `o` on. -/
abbrev headQ (p : FVec Ideal S256x4736 .f32) (c s : FVec Ideal S256x128 .f32) (o : ℕ) (ho : o + 128 ≤ 4736)
    (r : Fin 256) (l : Fin 128) : EReal :=
  spin (fun i => p (ix2 r ⟨o + i.val, by omega⟩)) (c (ix2 r l)) (s (ix2 r l)) l * Ideal.ofBits .f32 1040356334#32

theorem q0_at (x : FVec Ideal S1x256x1024 .f32) (g : FVec Ideal S1x1024 .f32) (w : FVec Ideal S1024x4736 .bf16)
    (c s : FVec Ideal S256x128 .f32) (r : Fin 256) (l : Fin 128) :
    k0_pay13 (F := Ideal) c s (k0_pay8 x g w) (k0_pay9 x g w) (k0_pay10 x g w) k0_pay11 k0_pay12 (ix4 0 0 r l)
      = headQ (k0_pay3 (F := Ideal) x g w) c s 512 (by omega) r l := by
  pointwise [k0_pay13, k0_pay8, k0_pay9, k0_pay10, k0_pay11, k0_pay12]

variable (p : FVec Ideal S256x4736 .f32) (c s : FVec Ideal S256x128 .f32) (r : Fin 256)

theorem q1_at (l : Fin 128) : k0_pay14 (F := Ideal) p c s (ix4 0 0 r l) = headQ p c s 640 (by omega) r l := by
  pointwise [k0_pay14]
theorem q2_at (l : Fin 128) :
    k0_pay18 (F := Ideal) (k0_pay16 p c) (k0_pay17 p s) (ix4 0 0 r l) = headQ p c s 768 (by omega) r l := by
  pointwise [k0_pay18, k0_pay16, k0_pay17, k0_pay15]
theorem q3_at (l : Fin 128) : k0_pay19 (F := Ideal) p c s (ix4 0 0 r l) = headQ p c s 896 (by omega) r l := by
  pointwise [k0_pay19]
theorem q4_at (l : Fin 128) : k0_pay21 (F := Ideal) (k0_pay20 p c s) (ix4 0 0 r l) = headQ p c s 1024 (by omega) r l := by
  pointwise [k0_pay21, k0_pay20]
theorem q5_at (l : Fin 128) : k0_pay22 (F := Ideal) p c s (ix4 0 0 r l) = headQ p c s 1152 (by omega) r l := by
  pointwise [k0_pay22]
theorem q6_at (l : Fin 128) : k0_pay24 (F := Ideal) (k0_pay23 p c s) (ix4 0 0 r l) = headQ p c s 1280 (by omega) r l := by
  pointwise [k0_pay24, k0_pay23]
theorem q7_at (l : Fin 128) : k0_pay25 (F := Ideal) p c s (ix4 0 0 r l) = headQ p c s 1408 (by omega) r l := by
  pointwise [k0_pay25]

/-! The two heads of the key. -/

theorem k0_at (l : Fin 128) : k0_pay27 (F := Ideal) p c s (ix3 0 r l)
    = spin (fun i => p (ix2 r ⟨1536 + i.val, by omega⟩)) (c (ix2 r l)) (s (ix2 r l)) l := by
  pointwise [k0_pay27, k0_pay26]
theorem k1_at (l : Fin 128) : k0_pay32 (F := Ideal) p c s (ix3 0 r l)
    = spin (fun i => p (ix2 r ⟨1664 + i.val, by omega⟩)) (c (ix2 r l)) (s (ix2 r l)) l := by
  pointwise [k0_pay32, k0_pay31]

theorem v_at (l : Fin 256) : k0_pay36 (F := Ideal) p (ix3 0 r l) = p (ix2 r ⟨1792 + l.val, by omega⟩) := by
  pointwise [k0_pay36]
theorem u_at (l : Fin 512) : k0_pay121 (F := Ideal) p (ix3 0 r l) = p (ix2 r ⟨l.val, by omega⟩) := by
  pointwise [k0_pay121, k0_pay120]

/-- The indexer's lanes: the key's 64 turned, the others scaled. -/
theorem kiw_at (l : Fin 128) : k0_pay112 (F := Ideal) p c s (ix3 0 r l)
    = if l.val < 64 then spin8 (fun i => p (ix2 r ⟨2560 + i.val, by omega⟩)) (c (ix2 r l)) (s (ix2 r l)) l
      else p (ix2 r ⟨2560 + l.val, by omega⟩) * Ideal.ofBits .f32 1026884851#32 := by
  rw [← select_decide, ← word64]
  pointwise [k0_pay112, k0_pay111, k0_pay110]

theorem sgb_at (j : Fin 1024) : k0_pay2 (F := Ideal) p (ix3 0 r j) = sigm (p (ix2 r ⟨3712 + j.val, by omega⟩)) := by
  pointwise [k0_pay2]
  simp only [sigm, zero_sub]
end Cert.Kernel4Ideal.Block
end
end
-- ==== Proof.PromptHost.lean ====
module
public import proofs.«01_k».proof.Proof.Gen.Kernel4Ideal.Frame.Runs
public import proofs.«01_k».proof.Proof.PromptRow
public import Idealize.ShloMosaic.Lib.Claim
public import Idealize.ShloMosaic.Lib.StableHlo.RunRead
public import Idealize.ShloMosaic.Lib.Pointwise
@[expose] public section
set_option maxRecDepth 16384
noncomputable section
namespace Cert.Kernel4Ideal.Host
open Idealize.ShloMosaic Idealize.ShloMosaic.TcCoe Idealize.SL.Sem
open Cert.Kernel4Ideal Cert.Kernel4Ideal.Gen Cert.Finish Cert.Proj Cert.Prompt

variable (m : (ℓ : Loc nD τ sig) → Buf (Elt Ideal) ℓ) (c : Dev nD)

/-- The widened projection the kernel is handed. -/
theorem w_at (k : Fin 1024) (l : Fin 4736) : (V m c main_v8 : FVec Ideal S1024x4736 .bf16) (ix2 k l)
    = wide (fun k l => (m ((c : Thread nD τ).loc main_arg1) : FVec Ideal S1x1024x4680 .f32) (ix3 0 k l)) k l := by
  unfold V
  after_reads_simp
  pointwise
  after_reads_simp
  pointwise
  rfl

/-! The tables of cosines and sines, a row a position. -/

theorem cos_at (r : Fin 16384) (l : Fin 128) : (V m c main_v39 : FVec Ideal S16384x128 .f32) (ix2 r l)
    = tabC 16 (pangle 1098907648#32 r.val) l.val := by
  unfold V
  after_reads_simp
  pointwise
  after_reads_simp
  pointwise
  simp only [tabC, pangle, zero_addi]
theorem sin_at (r : Fin 16384) (l : Fin 128) : (V m c main_v42 : FVec Ideal S16384x128 .f32) (ix2 r l)
    = tabS 16 (pangle 1098907648#32 r.val) l.val := by
  unfold V
  after_reads_simp
  pointwise
  after_reads_simp
  pointwise
  simp only [tabS, pangle, zero_addi]
theorem cos8_at (r : Fin 16384) (l : Fin 128) : (V m c main_v64 : FVec Ideal S16384x128 .f32) (ix2 r l)
    = tabC 8 (pangle 1090519040#32 r.val) (l.val % 64) := by
  unfold V
  after_reads_simp
  pointwise
  after_reads_simp
  pointwise
  simp only [tabC, pangle, zero_addi]
theorem sin8_at (r : Fin 16384) (l : Fin 128) : (V m c main_v67 : FVec Ideal S16384x128 .f32) (ix2 r l)
    = tabS 8 (pangle 1090519040#32 r.val) (l.val % 64) := by
  unfold V
  after_reads_simp
  pointwise
  after_reads_simp
  pointwise
  simp only [tabS, pangle, zero_addi]
end Cert.Kernel4Ideal.Host
end
end
-- ==== Proof.PromptPieces.lean ====
module
public import proofs.«01_k».proof.Proof.PromptBlock
public import proofs.«01_k».proof.Proof.PromptHost
public import Idealize.ShloMosaic.Lib.Pipeline.ValueKit
public import Idealize.ShloMosaic.Lib.Claim
@[expose] public section
set_option maxRecDepth 16384
noncomputable section
namespace Cert.Kernel4Ideal.Arr
open Idealize.ShloMosaic Idealize.ShloMosaic.TcCoe Idealize.SL.Sem
open Idealize.ShloMosaic.Pipeline (Dat)
open Cert.Kernel4Ideal Cert.Kernel4Ideal.Gen Cert.Finish Cert.Proj Cert.Prompt

variable (m : (ℓ : Loc nD τ sig) → Buf (Elt Ideal) ℓ) (c : Dev nD)

/-- Which block each window takes at each of the 128 steps: 64 row blocks for each of the two batch entries. -/
theorem idx : ∀ t : Fin cfg0.N, win0_0.index t = ![t.val / 64, t.val % 64, 0] ∧ win0_1.index t = ![0, 0] ∧ win0_2.index t = ![0, 0]
    ∧ win0_4.index t = ![t.val % 64, 0] ∧ win0_5.index t = ![t.val % 64, 0] ∧ win0_6.index t = ![t.val % 64, 0]
    ∧ win0_7.index t = ![t.val % 64, 0] ∧ win0_10.index t = ![t.val / 64, t.val % 64, 0]
    ∧ win0_11.index t = ![t.val / 64, 0, t.val % 64, 0] ∧ win0_12.index t = ![t.val / 64, t.val % 64, 0]
    ∧ win0_13.index t = ![t.val / 64, t.val % 64, 0] ∧ win0_15.index t = ![t.val / 64, t.val % 64, 0]
    ∧ win0_17.index t = ![t.val / 64, t.val % 64, 0] :=
  (by decide +kernel : ∀ t : Fin grid0.N, _)

/-- The batch entry of step `t`, and the position of its row `r`. -/
abbrev ent (t : Fin cfg0.N) : Fin 2 := ⟨t.val / 64, Nat.div_lt_of_lt_mul t.isLt⟩
abbrev pos (t : Fin cfg0.N) (r : Fin 256) : Fin 16384 := ⟨t.val % 64 * 256 + r.val, by omega⟩

/-! The arguments' arrays. -/
abbrev XA : FVec Ideal S2x16384x1024 .f32 := m ((c : Thread nD τ).loc main_arg0)
abbrev WA : FVec Ideal S1x1024x4680 .f32 := m ((c : Thread nD τ).loc main_arg1)
abbrev GA : FVec Ideal S1x1024 .f32 := m ((c : Thread nD τ).loc main_arg4)

/-! What each input window's block holds. -/
theorem read0 (t : Fin cfg0.N) (r : Fin 256) (k : Fin 1024) :
    (iblk m c 0 t : FVec Ideal S1x256x1024 .f32) (ix3 0 r k) = XA m c (ix3 (ent t) (pos t r) k) := by
  blk_simp [iblk, idx t]; entry_read; pointwise; blk_ext [idx t]
theorem read1 (t : Fin cfg0.N) (k : Fin 1024) :
    (iblk m c 1 t : FVec Ideal S1x1024 .f32) (ix2 0 k) = GA m c (ix2 0 k) := by
  blk_simp [iblk, idx t]; entry_read; pointwise; blk_ext [idx t]
theorem read2 (t : Fin cfg0.N) (k : Fin 1024) (l : Fin 4736) :
    (iblk m c 2 t : FVec Ideal S1024x4736 .bf16) (ix2 k l) = wide (fun k l => WA m c (ix3 0 k l)) k l := by
  refine Eq.trans ?_ (Host.w_at m c k l)
  blk_simp [iblk, idx t]
  blk_ext [idx t]
theorem read4 (t : Fin cfg0.N) (r : Fin 256) (l : Fin 128) :
    (iblk m c 4 t : FVec Ideal S256x128 .f32) (ix2 r l) = tabC 16 (pangle 1098907648#32 (pos t r).val) l.val := by
  refine Eq.trans ?_ (Host.cos_at m c (pos t r) l)
  blk_simp [iblk, idx t]
  blk_ext [idx t]
theorem read5 (t : Fin cfg0.N) (r : Fin 256) (l : Fin 128) :
    (iblk m c 5 t : FVec Ideal S256x128 .f32) (ix2 r l) = tabS 16 (pangle 1098907648#32 (pos t r).val) l.val := by
  refine Eq.trans ?_ (Host.sin_at m c (pos t r) l)
  blk_simp [iblk, idx t]
  blk_ext [idx t]
theorem read6 (t : Fin cfg0.N) (r : Fin 256) (l : Fin 128) :
    (iblk m c 6 t : FVec Ideal S256x128 .f32) (ix2 r l) = tabC 8 (pangle 1090519040#32 (pos t r).val) (l.val % 64) := by
  refine Eq.trans ?_ (Host.cos8_at m c (pos t r) l)
  blk_simp [iblk, idx t]
  blk_ext [idx t]
theorem read7 (t : Fin cfg0.N) (r : Fin 256) (l : Fin 128) :
    (iblk m c 7 t : FVec Ideal S256x128 .f32) (ix2 r l) = tabS 8 (pangle 1090519040#32 (pos t r).val) (l.val % 64) := by
  refine Eq.trans ?_ (Host.sin8_at m c (pos t r) l)
  blk_simp [iblk, idx t]
  blk_ext [idx t]

/-! Row `p` of batch entry `b`, the projection and the scale. -/
abbrev MX (b : Fin 2) (p : Fin 16384) : Fin 1024 → EReal := fun k => XA m c (ix3 b p k)
abbrev MW : Fin 1024 → Fin 4680 → EReal := fun k l => WA m c (ix3 0 k l)
abbrev MG : Fin 1024 → EReal := fun k => GA m c (ix2 0 k)

/-- The rows the block of step `t` projects. -/
abbrev P (t : Fin cfg0.N) : FVec Ideal S256x4736 .f32 := k0_pay3 (F := Ideal) (iblk m c 0 t) (iblk m c 1 t) (iblk m c 2 t)

theorem P_at (t : Fin cfg0.N) (r : Fin 256) (l : Fin 4736) :
    P m c t (ix2 r l) = pwide (MX m c (ent t) (pos t r)) (MG m c) (MW m c) l := by
  unfold P
  rw [Block.proj_at]
  simp only [read0, read1, read2, pwide]

/-- Below column 2632 the projected rows are the reference's. -/
theorem P_low (t : Fin cfg0.N) (r : Fin 256) (l : ℕ) (h : l < 2632) :
    P m c t (ix2 r ⟨l, by omega⟩) = pcol (MX m c (ent t) (pos t r)) (MG m c) (MW m c) ⟨l, by omega⟩ :=
  (P_at m c t r _).trans (pwide_low _ _ _ _ _ h rfl)

/-- From column 2688 on they are the reference's 56 columns before. -/
theorem P_high (t : Fin cfg0.N) (r : Fin 256) (l : ℕ) (h : 2632 ≤ l) (h' : l < 4680) :
    P m c t (ix2 r ⟨l + 56, by omega⟩) = pcol (MX m c (ent t) (pos t r)) (MG m c) (MW m c) ⟨l, h'⟩ :=
  (P_at m c t r _).trans (pwide_high _ _ _ _ _ (by show 2688 ≤ l + 56; omega) rfl)

theorem P_zero (t : Fin cfg0.N) (r : Fin 256) (l : ℕ) (h : 2632 ≤ l) (h' : l < 2688) :
    P m c t (ix2 r ⟨l, by omega⟩) = 0 :=
  (P_at m c t r _).trans (pwide_zero _ _ _ _ h h')

/-! The result arrays. -/
def out10 : FVec Ideal S2x16384x512 .f32 := fun i =>
  pcol (MX m c (i 0) (i 1)) (MG m c) (MW m c) ⟨(i 2).val, Nat.lt_trans (i 2).isLt (by decide)⟩
def out11 : FVec Ideal S2x8x16384x128 .bf16 := fun i => pq (MX m c (i 0) (i 2)) (MG m c) (MW m c) (i 2).val (i 1) (i 3)
def out12 : FVec Ideal S2x16384x256 .f32 := fun i => pk (MX m c (i 0) (i 1)) (MG m c) (MW m c) (i 1).val (i 2)
def out13 : FVec Ideal S2x16384x256 .f32 := fun i =>
  pcol (MX m c (i 0) (i 1)) (MG m c) (MW m c) ⟨1792 + (i 2).val, Nat.lt_trans (Nat.add_lt_add_left (i 2).isLt _) (by decide)⟩
def out15 : FVec Ideal S2x16384x128 .f32 := fun i => pkiw (MX m c (i 0) (i 1)) (MG m c) (MW m c) (i 1).val (i 2)
def out17 : FVec Ideal S2x16384x1024 .f32 := fun i => psgb (MX m c (i 0) (i 1)) (MG m c) (MW m c) (i 2)

/-! Where each block lies in its result array. -/
theorem emb10 (t : Fin cfg0.N) (r : Fin 256) (j : Fin 512) :
    ((cfg0.win 10).blk t).view.emb (ix3 0 r j : S1x256x512.Idx) = (ix3 (ent t) (pos t r) j : S2x16384x512.Idx) := by blk_ext [idx t]
theorem emb11 (t : Fin cfg0.N) (h : Fin 8) (r : Fin 256) (j : Fin 128) :
    ((cfg0.win 11).blk t).view.emb (ix4 0 h r j : S1x8x256x128.Idx) = (ix4 (ent t) h (pos t r) j : S2x8x16384x128.Idx) := by
  blk_ext [idx t]
theorem emb12 (t : Fin cfg0.N) (r : Fin 256) (j : Fin 256) :
    ((cfg0.win 12).blk t).view.emb (ix3 0 r j : S1x256x256.Idx) = (ix3 (ent t) (pos t r) j : S2x16384x256.Idx) := by blk_ext [idx t]
theorem emb13 (t : Fin cfg0.N) (r : Fin 256) (j : Fin 256) :
    ((cfg0.win 13).blk t).view.emb (ix3 0 r j : S1x256x256.Idx) = (ix3 (ent t) (pos t r) j : S2x16384x256.Idx) := by blk_ext [idx t]
theorem emb15 (t : Fin cfg0.N) (r : Fin 256) (j : Fin 128) :
    ((cfg0.win 15).blk t).view.emb (ix3 0 r j : S1x256x128.Idx) = (ix3 (ent t) (pos t r) j : S2x16384x128.Idx) := by blk_ext [idx t]
theorem emb17 (t : Fin cfg0.N) (r : Fin 256) (j : Fin 1024) :
    ((cfg0.win 17).blk t).view.emb (ix3 0 r j : S1x256x1024.Idx) = (ix3 (ent t) (pos t r) j : S2x16384x1024.Idx) := by blk_ext [idx t]

/-! The tables at a row and lane. -/
theorem C_at (t : Fin cfg0.N) (r : Fin 256) (l : Fin 128) :
    k0_pay4 (F := Ideal) (iblk m c 4 t) (ix2 r l) = tabC 16 (pangle 1098907648#32 (pos t r).val) l.val :=
  (congrFun (shapeCast_self _ _) _).trans (read4 m c t r l)
theorem S_at (t : Fin cfg0.N) (r : Fin 256) (l : Fin 128) :
    k0_pay5 (F := Ideal) (iblk m c 5 t) (ix2 r l) = tabS 16 (pangle 1098907648#32 (pos t r).val) l.val :=
  (congrFun (shapeCast_self _ _) _).trans (read5 m c t r l)
theorem C8_at (t : Fin cfg0.N) (r : Fin 256) (l : Fin 128) :
    k0_pay6 (F := Ideal) (iblk m c 6 t) (ix2 r l) = tabC 8 (pangle 1090519040#32 (pos t r).val) (l.val % 64) :=
  (congrFun (shapeCast_self _ _) _).trans (read6 m c t r l)
theorem S8_at (t : Fin cfg0.N) (r : Fin 256) (l : Fin 128) :
    k0_pay7 (F := Ideal) (iblk m c 7 t) (ix2 r l) = tabS 8 (pangle 1090519040#32 (pos t r).val) (l.val % 64) :=
  (congrFun (shapeCast_self _ _) _).trans (read7 m c t r l)

/-! What is stored, at each index of its block. -/
theorem u_piece (t : Fin cfg0.N) (r : Fin 256) (j : Fin 512) :
    k0_pay121 (F := Ideal) (P m c t) (ix3 0 r j) = out10 m c (ix3 (ent t) (pos t r) j) :=
  (Block.u_at _ r j).trans (P_low m c t r j.val (by omega))

theorem v_piece (t : Fin cfg0.N) (r : Fin 256) (j : Fin 256) :
    k0_pay36 (F := Ideal) (P m c t) (ix3 0 r j) = out13 m c (ix3 (ent t) (pos t r) j) :=
  (Block.v_at _ r j).trans (P_low m c t r (1792 + j.val) (by omega))

theorem sgb_piece (t : Fin cfg0.N) (r : Fin 256) (j : Fin 1024) :
    k0_pay2 (F := Ideal) (P m c t) (ix3 0 r j) = out17 m c (ix3 (ent t) (pos t r) j) := by
  refine (Block.sgb_at _ r j).trans (congrArg sigm ?_)
  refine Eq.trans ?_ (P_high m c t r (3656 + j.val) (by omega) (by omega))
  exact congrArg (P m c t) (by blk_ext)

theorem kiw_piece (t : Fin cfg0.N) (r : Fin 256) (j : Fin 128) :
    k0_pay112 (F := Ideal) (P m c t) (k0_pay6 (iblk m c 6 t)) (k0_pay7 (iblk m c 7 t)) (ix3 0 r j)
      = out15 m c (ix3 (ent t) (pos t r) j) := by
  rw [Block.kiw_at]
  show _ = pkiw (MX m c (ent t) (pos t r)) (MG m c) (MW m c) (pos t r).val j
  unfold pkiw
  by_cases h : j.val < 64
  · rw [if_pos h, dif_pos h, C8_at, S8_at, spin8_eq _ _ _ h]
    exact turn_congr _ _ _ _ h fun i hi => P_low m c t r (2560 + i.val) (by omega)
  · rw [if_neg h, dif_neg h]
    by_cases h' : j.val - 64 < 8
    · rw [dif_pos h', P_low m c t r (2560 + j.val) (by omega)]
      congr 2
      exact Fin.ext (show 2560 + j.val = 2624 + (j.val - 64) by omega)
    · rw [dif_neg h', P_zero m c t r (2560 + j.val) (by omega) (by omega), zero_mul]

/-- One of the query's eight stores, of the lanes from column `o` on: head `h`. -/
theorem q_piece (t : Fin cfg0.N) (x : S1x1x256x128.Idx) (h : Fin 8) (r : Fin 256) (j : Fin 128) (v : FVec Ideal S1x1x256x128 .bf16)
    (o : ℕ) (hb : o + 128 ≤ 2632) (ho : o = 512 + h.val * 128) (hx2 : r.val = (x 2).val) (hx3 : j.val = (x 3).val)
    (hv : ∀ (r : Fin 256) (l : Fin 128), v (ix4 0 0 r l)
      = Block.headQ (P m c t) (k0_pay4 (F := Ideal) (iblk m c 4 t)) (k0_pay5 (F := Ideal) (iblk m c 5 t)) o (by omega) r l) :
    v x = out11 m c (ix4 (ent t) h (pos t r) j) := by
  have e : x = (ix4 0 0 r j : S1x1x256x128.Idx) := by blk_ext
  rw [e, hv]
  unfold Block.headQ
  rw [C_at, S_at, spin_eq]
  show _ = pq (MX m c (ent t) (pos t r)) (MG m c) (MW m c) (pos t r).val h j
  unfold pq
  subst ho
  congr 2
  funext i
  refine (P_low m c t r (512 + h.val * 128 + i.val) (by omega)).trans ?_
  congr 1
  exact Fin.ext (Nat.add_assoc _ _ _)

/-- One of the key's two stores, of the array's lanes from `d` on. -/
theorem k_piece (t : Fin cfg0.N) (x : S1x256x128.Idx) (r : Fin 256) (j : Fin 256) (v : FVec Ideal S1x256x128 .f32)
    (d : ℕ) (hd : d ≤ 128) (hm : d / 128 * 128 = d) (hx1 : r.val = (x 1).val) (hx2 : j.val = d + (x 2).val)
    (hv : ∀ (r : Fin 256) (l : Fin 128), v (ix3 0 r l)
      = spin (fun i => P m c t (ix2 r ⟨1536 + d + i.val, by omega⟩)) (k0_pay4 (F := Ideal) (iblk m c 4 t) (ix2 r l))
          (k0_pay5 (F := Ideal) (iblk m c 5 t) (ix2 r l)) l) :
    v x = out12 m c (ix3 (ent t) (pos t r) j) := by
  have l2 : (x 2).val < 128 := (x 2).isLt
  have e : x = (ix3 0 r ⟨j.val % 128, by omega⟩ : S1x256x128.Idx) := by
    blk_ext
    all_goals omega
  rw [e, hv, C_at, S_at, spin_eq]
  show _ = pk (MX m c (ent t) (pos t r)) (MG m c) (MW m c) (pos t r).val j
  unfold pk
  congr 1
  funext i
  refine (P_low m c t r (1536 + d + i.val) (by omega)).trans ?_
  congr 1
  exact Fin.ext (show 1536 + d + i.val = 1536 + (j.val / 128 * 128 + i.val) by omega)

end Cert.Kernel4Ideal.Arr
end
end
-- ==== Proof.PromptArray.lean ====
module
public import proofs.«01_k».proof.Proof.PromptPieces
public import proofs.«01_k».proof.Proof.PromptHeld
@[expose] public section
set_option maxRecDepth 16384
noncomputable section
namespace Cert.Kernel4Ideal.Arr
open Idealize.ShloMosaic Idealize.ShloMosaic.TcCoe Idealize.SL.Sem
open Idealize.ShloMosaic.Pipeline (Dat)
open Cert.Kernel4Ideal Cert.Kernel4Ideal.Gen Cert.Kernel4Ideal.Prompt Cert.Finish Cert.Proj Cert.Prompt

variable (m : (ℓ : Loc nD τ sig) → Buf (Elt Ideal) ℓ) (c : Dev nD)

/-- What a row block leaves: what the body leaves at one that opens a batch entry, or at a later one. -/
theorem held_cases (t : Fin cfg0.N) : (∃ h0, held m c t.val t.isLt = outA m c t h0)
    ∨ ∃ h0 xs, held m c t.val t.isLt = outB m c t h0 xs := by
  by_cases h0 : t.val % 64 = 0
  · exact .inl ⟨h0, held_A m c t h0⟩
  · exact .inr ⟨h0, _, held_B m c t h0⟩

theorem final10 : (dats m 0 c).arrAt 10 (cfgs 0).N = out10 m c := by
  refine (dats m 0 c).arrAt_eq_of_covers 10 _ (by decide +kernel) fun t hf y => ?_
  obtain ⟨r, j, rfl⟩ : ∃ (r : Fin 256) (j : Fin 512), y = (ix3 0 r j : S1x256x512.Idx) := ⟨y 1, y 2, by blk_ext⟩
  rw [emb10 t r j]
  blk_simp
  rw [after_10]
  rcases held_cases m c t with ⟨h0, e⟩ | ⟨h0, xs, e⟩
  all_goals rw [e]
  on_goal 1 => unfold outA; dsimp only; unfold ptA
  on_goal 2 => unfold outB; dsimp only; unfold ptB
  all_goals
    frame_out
    exact u_piece m c t r j

theorem final13 : (dats m 0 c).arrAt 13 (cfgs 0).N = out13 m c := by
  refine (dats m 0 c).arrAt_eq_of_covers 13 _ (by decide +kernel) fun t hf y => ?_
  obtain ⟨r, j, rfl⟩ : ∃ (r : Fin 256) (j : Fin 256), y = (ix3 0 r j : S1x256x256.Idx) := ⟨y 1, y 2, by blk_ext⟩
  rw [emb13 t r j]
  blk_simp
  rw [after_13]
  rcases held_cases m c t with ⟨h0, e⟩ | ⟨h0, xs, e⟩
  all_goals rw [e]
  on_goal 1 => unfold outA; dsimp only; unfold ptA
  on_goal 2 => unfold outB; dsimp only; unfold ptB
  all_goals
    frame_out
    exact v_piece m c t r j

theorem final17 : (dats m 0 c).arrAt 17 (cfgs 0).N = out17 m c := by
  refine (dats m 0 c).arrAt_eq_of_covers 17 _ (by decide +kernel) fun t hf y => ?_
  obtain ⟨r, j, rfl⟩ : ∃ (r : Fin 256) (j : Fin 1024), y = (ix3 0 r j : S1x256x1024.Idx) := ⟨y 1, y 2, by blk_ext⟩
  rw [emb17 t r j]
  blk_simp
  rw [after_17]
  rcases held_cases m c t with ⟨h0, e⟩ | ⟨h0, xs, e⟩
  all_goals rw [e]
  on_goal 1 => unfold outA; dsimp only; unfold ptA
  on_goal 2 => unfold outB; dsimp only; unfold ptB
  all_goals
    frame_out
    exact sgb_piece m c t r j

theorem final15 : (dats m 0 c).arrAt 15 (cfgs 0).N = out15 m c := by
  refine (dats m 0 c).arrAt_eq_of_covers 15 _ (by decide +kernel) fun t hf y => ?_
  obtain ⟨r, j, rfl⟩ : ∃ (r : Fin 256) (j : Fin 128), y = (ix3 0 r j : S1x256x128.Idx) := ⟨y 1, y 2, by blk_ext⟩
  rw [emb15 t r j]
  blk_simp
  rw [after_15]
  rcases held_cases m c t with ⟨h0, e⟩ | ⟨h0, xs, e⟩
  all_goals rw [e]
  on_goal 1 => unfold outA; dsimp only; unfold ptA
  on_goal 2 => unfold outB; dsimp only; unfold ptB
  all_goals
    frame_out
    exact kiw_piece m c t r j

theorem final12 : (dats m 0 c).arrAt 12 (cfgs 0).N = out12 m c := by
  refine (dats m 0 c).arrAt_eq_of_covers 12 _ (by decide +kernel) fun t hf y => ?_
  obtain ⟨r, j, rfl⟩ : ∃ (r : Fin 256) (j : Fin 256), y = (ix3 0 r j : S1x256x256.Idx) := ⟨y 1, y 2, by blk_ext⟩
  rw [emb12 t r j]
  blk_simp
  rw [after_12]
  rcases held_cases m c t with ⟨h0, e⟩ | ⟨h0, xs, e⟩
  all_goals rw [e]
  on_goal 1 => unfold outA; dsimp only; unfold ptA
  on_goal 2 => unfold outB; dsimp only; unfold ptB
  all_goals
    frame_out
    canon_tiles x hx
    · exact k_piece m c t x r j _ 128 (by omega) (by decide) hx1 hx2 (Block.k1_at _ _ _)
    · exact k_piece m c t x r j _ 0 (by omega) (by decide) hx1 (by have e : j.val = (x 2).val := hx2; omega) (Block.k0_at _ _ _)

theorem final11 : (dats m 0 c).arrAt 11 (cfgs 0).N = out11 m c := by
  refine (dats m 0 c).arrAt_eq_of_covers 11 _ (by decide +kernel) fun t hf y => ?_
  obtain ⟨h, r, j, rfl⟩ : ∃ (h : Fin 8) (r : Fin 256) (j : Fin 128), y = (ix4 0 h r j : S1x8x256x128.Idx) :=
    ⟨y 1, y 2, y 3, by blk_ext⟩
  rw [emb11 t h r j]
  blk_simp
  rw [after_11]
  rcases held_cases m c t with ⟨h0, e⟩ | ⟨h0, xs, e⟩
  all_goals rw [e]
  on_goal 1 => unfold outA; dsimp only; unfold ptA
  on_goal 2 => unfold outB; dsimp only; unfold ptB
  all_goals
    frame_out
    canon_tiles x hx
    · exact q_piece m c t x h r j _ 1408 (by omega) (by have e : h.val = 7 + (x 1).val := hx1; omega) hx2 hx3 (Block.q7_at _ _ _)
    · exact q_piece m c t x h r j _ 1280 (by omega) (by have e : h.val = 6 + (x 1).val := hx1; omega) hx2 hx3 (Block.q6_at _ _ _)
    · exact q_piece m c t x h r j _ 1152 (by omega) (by have e : h.val = 5 + (x 1).val := hx1; omega) hx2 hx3 (Block.q5_at _ _ _)
    · exact q_piece m c t x h r j _ 1024 (by omega) (by have e : h.val = 4 + (x 1).val := hx1; omega) hx2 hx3 (Block.q4_at _ _ _)
    · exact q_piece m c t x h r j _ 896 (by omega) (by have e : h.val = 3 + (x 1).val := hx1; omega) hx2 hx3 (Block.q3_at _ _ _)
    · exact q_piece m c t x h r j _ 768 (by omega) (by have e : h.val = 2 + (x 1).val := hx1; omega) hx2 hx3 (Block.q2_at _ _ _)
    · exact q_piece m c t x h r j _ 640 (by omega) (by have e : h.val = 1 + (x 1).val := hx1; omega) hx2 hx3 (Block.q1_at _ _ _)
    · exact q_piece m c t x h r j _ 512 (by omega) (by have e : h.val = (x 1).val := hx1; omega) hx2 hx3 (Block.q0_at _ _ _ _ _)

end Cert.Kernel4Ideal.Arr
end
end
-- ==== Proof.PromptBlocks.lean ====
module
public import proofs.«01_k».proof.Proof.PromptArray
public import proofs.«01_k».proof.Proof.PromptFrame
@[expose] public section
set_option maxRecDepth 16384
noncomputable section
namespace Cert.Kernel4Ideal.Arr
open Idealize.ShloMosaic Idealize.ShloMosaic.TcCoe Idealize.SL.Sem
open Idealize.ShloMosaic.Pipeline (Dat)
open Cert.Kernel4Ideal Cert.Kernel4Ideal.Gen Cert.Kernel4Ideal.Prompt Cert.Finish Cert.Proj Cert.Prompt

variable (m : (ℓ : Loc nD τ sig) → Buf (Elt Ideal) ℓ) (c : Dev nD)

/-- Every run ends with the six arrays as above and the arguments as they were. -/
theorem run_blocks (ρ : Dev nD → PrngReg) : θ_run defs (onTc (τ := τ) (main (F := Ideal))) ⟨m, fun _ => 0, ρ⟩ fun r => ∀ c : Dev nD,
      r.2.mem ((c : Thread nD τ).loc main_v68_0) = (dats m 0 c).arrAt 10 cfg0.N
      ∧ r.2.mem ((c : Thread nD τ).loc main_v68_1) = (dats m 0 c).arrAt 11 cfg0.N
      ∧ r.2.mem ((c : Thread nD τ).loc main_v68_2) = (dats m 0 c).arrAt 12 cfg0.N
      ∧ r.2.mem ((c : Thread nD τ).loc main_v68_3) = (dats m 0 c).arrAt 13 cfg0.N
      ∧ r.2.mem ((c : Thread nD τ).loc main_v68_5) = (dats m 0 c).arrAt 15 cfg0.N
      ∧ r.2.mem ((c : Thread nD τ).loc main_v68_7) = (dats m 0 c).arrAt 17 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono
    (fun r h c => ⟨(h.1 c).1 10, (h.1 c).1 11, (h.1 c).1 12, (h.1 c).1 13, (h.1 c).1 15, (h.1 c).1 17, h.2 c⟩)
    (θ_run_and (run_main m ρ) (frame_of m ρ (dats m) (A_eq m) (run_main m ρ)))

end Cert.Kernel4Ideal.Arr
end
end
-- ==== Proof.PromptRef.lean ====
module
public import proofs.«01_k».proof.Proof.Gen.Reference4Ideal.Read
public import proofs.«01_k».proof.Proof.PromptRow
public import Idealize.ShloMosaic.Lib.Pointwise
public import Idealize.ShloMosaic.Lib.Pipeline.ValueKit
@[expose] public section
set_option maxRecDepth 16384
noncomputable section
namespace Cert.Reference4Ideal.At
open Idealize.ShloMosaic Idealize.ShloMosaic.TcCoe Idealize.SL.Sem
open Cert.Reference4Ideal Cert.Reference4Ideal.Gen Cert.Reference4Ideal.Read Cert.Finish Cert.Proj Cert.Prompt

variable (x : FVec Ideal S2x16384x1024 .f32) (w : FVec Ideal S1x1024x4680 .f32) (g : FVec Ideal S1x1024 .f32)

/-- Row `t` of batch entry `b`, the projection and the scale. -/
abbrev X (b : Fin 2) (t : Fin 16384) : Fin 1024 → EReal := fun k => x (ix3 b t k)
abbrev W : Fin 1024 → Fin 4680 → EReal := fun k l => w (ix3 0 k l)
abbrev G : Fin 1024 → EReal := fun k => g (ix2 0 k)

/-- The reference's projected row at column `c`. -/
theorem proj_at (b : Fin 2) (t : Fin 16384) (c : Fin 4680) :
    val_main_v16 (F := Ideal) x w g (ix3 b t c) = pcol (X x b t) (G g) (W w) c := by
  unfold pcol
  pointwise [val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1]
  simp only [rms, rowMul, zero_add, dLen, eps]

theorem u_at (b : Fin 2) (t : Fin 16384) (c : Fin 512) :
    val_main_v17 (F := Ideal) x w g (ix3 b t c) = pcol (X x b t) (G g) (W w) ⟨c.val, by omega⟩ := by
  rw [← proj_at]
  pointwise [val_main_v17]

theorem v_at (b : Fin 2) (t : Fin 16384) (c : Fin 256) :
    val_main_v20 (F := Ideal) x w g (ix3 b t c) = pcol (X x b t) (G g) (W w) ⟨1792 + c.val, by omega⟩ := by
  rw [← proj_at]
  pointwise [val_main_v20]

/-- The query's heads turned. -/
theorem q_turn (b : Fin 2) (t : Fin 16384) (h : Fin 8) (l : Fin 128) :
    val_main_v60 (F := Ideal) x w g (ix4 b t h l)
      = turn 16 (by omega) (fun i => val_main_v16 (F := Ideal) x w g (ix3 b t ⟨512 + (h.val * 128 + i.val), by omega⟩))
          (pangle 1098907648#32 t.val) l := by
  simp only [turn, pangle, Nat.reduceAdd]
  pointwise [val_main_v0, val_main_v18, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_cst_2, val_main_cst_3]

/-- The key's heads turned. -/
theorem k_turn (b : Fin 2) (t : Fin 16384) (h : Fin 2) (l : Fin 128) :
    val_main_v95 (F := Ideal) x w g (ix4 b t h l)
      = turn 16 (by omega) (fun i => val_main_v16 (F := Ideal) x w g (ix3 b t ⟨1536 + (h.val * 128 + i.val), by omega⟩))
          (pangle 1098907648#32 t.val) l := by
  simp only [turn, pangle, Nat.reduceAdd]
  pointwise [val_main_v0, val_main_v19, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_cst_4, val_main_cst_5]

/-- The indexer's key turned. -/
theorem ki_turn (b : Fin 2) (t : Fin 16384) (l : Fin 64) :
    val_main_v130 (F := Ideal) x w g (ix4 b t 0 l)
      = turn 8 (by omega) (fun i => val_main_v16 (F := Ideal) x w g (ix3 b t ⟨2560 + i.val, by omega⟩))
          (pangle 1090519040#32 t.val) ⟨l.val, by omega⟩ := by
  simp only [turn, pangle, Nat.reduceAdd]
  pointwise [val_main_v0, val_main_v22, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_cst_6, val_main_cst_7]

theorem sgb_at (b : Fin 2) (t : Fin 16384) (j : Fin 1024) :
    val_main_v146 (F := Ideal) x w g (ix3 b t j) = psgb (X x b t) (G g) (W w) j := by
  unfold psgb
  simp only [sigm]
  rw [← proj_at]
  pointwise [val_main_v141, val_main_v142, val_main_v143, val_main_v144, val_main_v145, val_main_v146, val_main_cst_11, val_main_cst_12, val_main_v25]

theorem q_at (b : Fin 2) (h : Fin 8) (t : Fin 16384) (l : Fin 128) :
    val_main_v135 (F := Ideal) x w g (ix4 b h t l) = pq (X x b t) (G g) (W w) t.val h l := by
  unfold pq
  simp only [← proj_at]
  rw [← q_turn]
  pointwise [val_main_v132, val_main_v133, val_main_v134, val_main_v135, val_main_cst_8]

theorem k_at (b : Fin 2) (t : Fin 16384) (c : Fin 256) :
    val_main_v136 (F := Ideal) x w g (ix3 b t c) = pk (X x b t) (G g) (W w) t.val c := by
  unfold pk
  simp only [← proj_at]
  refine Eq.trans ?_ (k_turn x w g b t ⟨c.val / 128, by omega⟩ ⟨c.val % 128, by omega⟩)
  pointwise [val_main_v136]

theorem kiw_at (b : Fin 2) (t : Fin 16384) (l : Fin 128) :
    val_main_v140 (F := Ideal) x w g (ix3 b t l) = pkiw (X x b t) (G g) (W w) t.val l := by
  unfold pkiw
  simp only [← proj_at]
  pointwise [val_main_v137, val_main_v138, val_main_v139, val_main_v140, val_main_v131, val_main_v23, val_main_cst_9, val_main_cst_10]
  by_cases h : l.val < 64
  · rw [dif_pos h, dif_pos h, ki_turn]
  · rw [dif_neg h, dif_neg h]

end Cert.Reference4Ideal.At
end
end
-- ==== Proof.PromptClaim.lean ====
module
public import proofs.«01_k».proof.Defs
public import proofs.«01_k».proof.Proof.PromptBlocks
public import proofs.«01_k».proof.Proof.PromptRef
public import proofs.«01_k».proof.Proof.Gen.Reference4Ideal.Run
public import Idealize.ShloMosaic.Lib.Claim
public import Idealize.ShloMosaic.Adequacy
public import Idealize.ShloMosaic.Init
@[expose] public section
set_option maxRecDepth 16384
noncomputable section
namespace Cert.Proof
open Idealize.ShloMosaic Idealize.SL.Sem

set_option maxHeartbeats 2000000 in
/-- The projection call over the prompt computes the reference's projections, rotations and gate: each of the six arrays
    claimed of it is the reference's on equal arguments. -/
theorem prompt_value : Cert.algebraic_Kernel4Ideal_Reference4Ideal := by
  pair_intro
  · run_from Cert.Kernel4Ideal.Arr.run_blocks m g
  · run_from Cert.Reference4Ideal.Value.run m' g'
    · obtain ⟨h0, h1, h2, h3, h4⟩ := hagree c
      refine (Cert.Reference4Ideal.Read.val_main_v17_eq (F := Ideal) _ _ _).trans ?_
      refine Eq.trans ?_ (Cert.Kernel4Ideal.Arr.final10 m c).symm
      funext i
      obtain ⟨b, t, j, rfl⟩ : ∃ (b : Fin 2) (t : Fin 16384) (j : Fin 512), i = (ix3 b t j : Cert.Kernel4Ideal.S2x16384x512.Idx) := ⟨i 0, i 1, i 2, eq_ix3 i⟩
      exact Cert.Reference4Ideal.At.u_at _ _ _ b t j
    · obtain ⟨h0, h1, h2, h3, h4⟩ := hagree c
      refine (Cert.Reference4Ideal.Read.val_main_v135_eq (F := Ideal) m' c).trans ?_
      refine Eq.trans ?_ (Cert.Kernel4Ideal.Arr.final11 m c).symm
      show Cert.Reference4Ideal.Read.val_main_v135 (F := Ideal) (m' (c.tc.loc Cert.Reference4Ideal.main_arg0)) (m' (c.tc.loc Cert.Reference4Ideal.main_arg1)) (m' (c.tc.loc Cert.Reference4Ideal.main_arg4)) = _
      rw [h0, h1, h4]
      funext i
      obtain ⟨b, h, t, j, rfl⟩ : ∃ (b : Fin 2) (h : Fin 8) (t : Fin 16384) (j : Fin 128), i = (ix4 b h t j : Cert.Kernel4Ideal.S2x8x16384x128.Idx) := ⟨i 0, i 1, i 2, i 3, eq_ix4 i⟩
      exact Cert.Reference4Ideal.At.q_at _ _ _ b h t j
    · obtain ⟨h0, h1, h2, h3, h4⟩ := hagree c
      refine (Cert.Reference4Ideal.Read.val_main_v136_eq (F := Ideal) m' c).trans ?_
      refine Eq.trans ?_ (Cert.Kernel4Ideal.Arr.final12 m c).symm
      show Cert.Reference4Ideal.Read.val_main_v136 (F := Ideal) (m' (c.tc.loc Cert.Reference4Ideal.main_arg0)) (m' (c.tc.loc Cert.Reference4Ideal.main_arg1)) (m' (c.tc.loc Cert.Reference4Ideal.main_arg4)) = _
      rw [h0, h1, h4]
      funext i
      obtain ⟨b, t, j, rfl⟩ : ∃ (b : Fin 2) (t : Fin 16384) (j : Fin 256), i = (ix3 b t j : Cert.Kernel4Ideal.S2x16384x256.Idx) := ⟨i 0, i 1, i 2, eq_ix3 i⟩
      exact Cert.Reference4Ideal.At.k_at _ _ _ b t j
    · obtain ⟨h0, h1, h2, h3, h4⟩ := hagree c
      refine (Cert.Reference4Ideal.Read.val_main_v20_eq (F := Ideal) _ _ _).trans ?_
      refine Eq.trans ?_ (Cert.Kernel4Ideal.Arr.final13 m c).symm
      funext i
      obtain ⟨b, t, j, rfl⟩ : ∃ (b : Fin 2) (t : Fin 16384) (j : Fin 256), i = (ix3 b t j : Cert.Kernel4Ideal.S2x16384x256.Idx) := ⟨i 0, i 1, i 2, eq_ix3 i⟩
      exact Cert.Reference4Ideal.At.v_at _ _ _ b t j
    · obtain ⟨h0, h1, h2, h3, h4⟩ := hagree c
      refine (Cert.Reference4Ideal.Read.val_main_v140_eq (F := Ideal) m' c).trans ?_
      refine Eq.trans ?_ (Cert.Kernel4Ideal.Arr.final15 m c).symm
      show Cert.Reference4Ideal.Read.val_main_v140 (F := Ideal) (m' (c.tc.loc Cert.Reference4Ideal.main_arg0)) (m' (c.tc.loc Cert.Reference4Ideal.main_arg1)) (m' (c.tc.loc Cert.Reference4Ideal.main_arg4)) = _
      rw [h0, h1, h4]
      funext i
      obtain ⟨b, t, j, rfl⟩ : ∃ (b : Fin 2) (t : Fin 16384) (j : Fin 128), i = (ix3 b t j : Cert.Kernel4Ideal.S2x16384x128.Idx) := ⟨i 0, i 1, i 2, eq_ix3 i⟩
      exact Cert.Reference4Ideal.At.kiw_at _ _ _ b t j
    · obtain ⟨h0, h1, h2, h3, h4⟩ := hagree c
      refine (Cert.Reference4Ideal.Read.val_main_v146_eq (F := Ideal) _ _ _).trans ?_
      refine Eq.trans ?_ (Cert.Kernel4Ideal.Arr.final17 m c).symm
      funext i
      obtain ⟨b, t, j, rfl⟩ : ∃ (b : Fin 2) (t : Fin 16384) (j : Fin 1024), i = (ix3 b t j : Cert.Kernel4Ideal.S2x16384x1024.Idx) := ⟨i 0, i 1, i 2, eq_ix3 i⟩
      exact Cert.Reference4Ideal.At.sgb_at _ _ _ b t j

/-- The reference of the projection call over the prompt runs to its end, its arguments as they were; it declares no semaphore. -/
theorem prompt_ref_frame : Cert.quiescent_Reference4Ideal := fun m g _ =>
  (θ_run Cert.Reference4Ideal.defs _ _).mono
    (fun r h => ⟨fun c => (h c).2.2.2.2.2.2, sem_eq_zero_of_no_sems (by decide) r.2⟩)
    (Cert.Reference4Ideal.Value.run m g)

end Cert.Proof
end
end
-- ==== Proof.lean ====
/- The projection call of the sample batch and the closing call of both batches of version v17 compute the reference's
   mathematics of the same parts of the layer, and run to their ends on every argument. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame.Runs
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame.Runs
public import proofs.«01_k».proof.Proof.Gen.Reference4Ideal
public import proofs.«01_k».proof.Proof.Gen.Reference4Ideal.Run
public import proofs.«01_k».proof.Proof.Gen.Reference4Ideal.Read
public import proofs.«01_k».proof.Proof.FinishClaim
public import proofs.«01_k».proof.Proof.SampleClaim
public import proofs.«01_k».proof.Proof.ProjClaim
public import proofs.«01_k».proof.Proof.PromptBitsFrame
public import proofs.«01_k».proof.Proof.PromptFrame
public import proofs.«01_k».proof.Proof.PromptClaim
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  fun m g _ => Cert.Kernel.Gen.frame m g,
  fun m g _ => Cert.KernelIdeal.Gen.frame m g,
  proj_ref_frame,
  fun m g _ => Cert.Kernel2.Gen.frame m g,
  fun m g _ => Cert.Kernel2Ideal.Gen.frame m g,
  finish_ref_frame,
  fun m g _ => Cert.Kernel3.Gen.frame m g,
  fun m g _ => Cert.Kernel3Ideal.Gen.frame m g,
  sample_ref_frame,
  fun m g _ => Cert.Kernel4.Prompt.frame m g,
  fun m g _ => Cert.Kernel4Ideal.Prompt.frame m g,
  prompt_ref_frame,
  trivial,
  proj_value,
  trivial,
  finish_value,
  trivial,
  sample_value,
  trivial,
  prompt_value⟩

end Cert.Proof

end
